-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16x192x192 : Shape := ⟨4, ![4, 16, 192, 192]⟩
abbrev S64x784 : Shape := ⟨2, ![64, 784]⟩
abbrev S64 : Shape := ⟨1, ![64]⟩
abbrev S_ : Shape := ⟨0, ![]⟩

class Facts : Prop where
  bcast_S_S4x16x192x192 : S_.BroadcastsInDim S4x16x192x192 (![] : Fin 0 → Fin S4x16x192x192.rank)
  reducesTo_S4x16x192x192_S_d0_1_2_3 : S4x16x192x192.ReducesTo [0, 1, 2, 3] S_
  h_S_ : 0 < S_.numel
  bcast_S_S64x784 : S_.BroadcastsInDim S64x784 (![] : Fin 0 → Fin S64x784.rank)
  reducesTo_S64x784_S_d0_1 : S64x784.ReducesTo [0, 1] S_

variable [Facts]

def fn {F : FTy → Type} [FloatOps F] (main_arg0 : FVec F S4x16x192x192 .f32) (main_arg1 : FVec F S64x784 .f32) (main_arg2 : FVec F S64 .f32) : IVec S_ 1 :=
  let main_v0 : FVec F S4x16x192x192 .f32 := Host.absf main_arg0
  let main_cst : FVec F S_ .f32 := constant S_ .f32 0x7F800000#32
  let main_v1 : FVec F S4x16x192x192 .f32 := broadcastInDim S4x16x192x192 ![] bcast_S_S4x16x192x192 main_cst
  let main_v2 : IVec S4x16x192x192 1 := cmpf .olt main_v0 main_v1
  let main_c : IVec S_ 1 := constantI S_ 1 1#1
  let main_v3 : IVec S_ 1 := (fun x v => Host.reduce IntOp.andi x v reducesTo_S4x16x192x192_S_d0_1_2_3 h_S_) main_v2 main_c
  let main_v4 : FVec F S64x784 .f32 := Host.absf main_arg1
  let main_cst_0 : FVec F S_ .f32 := constant S_ .f32 0x7F800000#32
  let main_v5 : FVec F S64x784 .f32 := broadcastInDim S64x784 ![] bcast_S_S64x784 main_cst_0
  let main_v6 : IVec S64x784 1 := cmpf .olt main_v4 main_v5
  let main_c_1 : IVec S_ 1 := constantI S_ 1 1#1
  let main_v7 : IVec S_ 1 := (fun x v => Host.reduce IntOp.andi x v reducesTo_S64x784_S_d0_1 h_S_) main_v6 main_c_1
  let main_v8 : IVec S_ 1 := andi main_v3 main_v7
  main_v8
-- ==== Kernel.lean ====
abbrev S4x16x192x192 : Shape := ⟨4, ![4, 16, 192, 192]⟩
abbrev S64x784 : Shape := ⟨2, ![64, 784]⟩
abbrev S64 : Shape := ⟨1, ![64]⟩
abbrev S49x49 : Shape := ⟨2, ![49, 49]⟩
abbrev S49 : Shape := ⟨1, ![49]⟩
abbrev S7 : Shape := ⟨1, ![7]⟩
abbrev S4x192x16x192 : Shape := ⟨4, ![4, 192, 16, 192]⟩
abbrev S49x1 : Shape := ⟨2, ![49, 1]⟩
abbrev S64x1x16x49 : Shape := ⟨4, ![64, 1, 16, 49]⟩
abbrev S1x49x1x49 : Shape := ⟨4, ![1, 49, 1, 49]⟩
abbrev S64x49x16x49 : Shape := ⟨4, ![64, 49, 16, 49]⟩
abbrev S_ : Shape := ⟨0, ![]⟩
abbrev S64x49x16 : Shape := ⟨3, ![64, 49, 16]⟩
abbrev S64x15 : Shape := ⟨2, ![64, 15]⟩
abbrev S64x1 : Shape := ⟨2, ![64, 1]⟩
abbrev S64x785 : Shape := ⟨2, ![64, 785]⟩
abbrev S64x800 : Shape := ⟨2, ![64, 800]⟩
abbrev S7x234x192 : Shape := ⟨3, ![7, 234, 192]⟩
abbrev S7x1x1 : Shape := ⟨3, ![7, 1, 1]⟩
abbrev S4x64x192x192 : Shape := ⟨4, ![4, 64, 192, 192]⟩
abbrev S1x192x16x192 : Shape := ⟨4, ![1, 192, 16, 192]⟩
abbrev S1x64x32x192 : Shape := ⟨4, ![1, 64, 32, 192]⟩
abbrev S32x800x192 : Shape := ⟨3, ![32, 800, 192]⟩
abbrev S214x16x234 : Shape := ⟨3, ![214, 16, 234]⟩
abbrev S192x16x192 : Shape := ⟨3, ![192, 16, 192]⟩
abbrev S192x16x1 : Shape := ⟨3, ![192, 16, 1]⟩
abbrev S192x16x19 : Shape := ⟨3, ![192, 16, 19]⟩
abbrev S192x16x21 : Shape := ⟨3, ![192, 16, 21]⟩
abbrev S192x16x234 : Shape := ⟨3, ![192, 16, 234]⟩
abbrev S1x16x234 : Shape := ⟨3, ![1, 16, 234]⟩
abbrev S9x16x234 : Shape := ⟨3, ![9, 16, 234]⟩
abbrev S16x234 : Shape := ⟨2, ![16, 234]⟩
abbrev S54x16x234 : Shape := ⟨3, ![54, 16, 234]⟩
abbrev S53x16x234 : Shape := ⟨3, ![53, 16, 234]⟩
abbrev S51x16x234 : Shape := ⟨3, ![51, 16, 234]⟩
abbrev S50x16x234 : Shape := ⟨3, ![50, 16, 234]⟩
abbrev S47x16x234 : Shape := ⟨3, ![47, 16, 234]⟩
abbrev S40x16x234 : Shape := ⟨3, ![40, 16, 234]⟩
abbrev S38x16x234 : Shape := ⟨3, ![38, 16, 234]⟩
abbrev S608x234 : Shape := ⟨2, ![608, 234]⟩
abbrev S1x234x192 : Shape := ⟨3, ![1, 234, 192]⟩
abbrev S234x192 : Shape := ⟨2, ![234, 192]⟩
abbrev S608x192 : Shape := ⟨2, ![608, 192]⟩
abbrev S38x16x192 : Shape := ⟨3, ![38, 16, 192]⟩
abbrev S32x16x192 : Shape := ⟨3, ![32, 16, 192]⟩
abbrev S1x800x192 : Shape := ⟨3, ![1, 800, 192]⟩
abbrev S800x192 : Shape := ⟨2, ![800, 192]⟩
abbrev S64x192 : Shape := ⟨2, ![64, 192]⟩
abbrev S64x1x192 : Shape := ⟨3, ![64, 1, 192]⟩
abbrev S64x32x192 : Shape := ⟨3, ![64, 32, 192]⟩

abbrev nBuf : Space → Nat
  | .hbm => 48
  | .vmem => 8
  | .smem => 0
  | _ => 0

abbrev bufTy : (tb : Table) → Fin (tcTables nBuf tb) → BufTy
  | .hbm, ⟨0, _⟩ => ⟨S4x16x192x192, .f32⟩
  | .hbm, ⟨1, _⟩ => ⟨S64x784, .f32⟩
  | .hbm, ⟨2, _⟩ => ⟨S64, .f32⟩
  | .hbm, ⟨3, _⟩ => ⟨S49x49, .i1⟩
  | .hbm, ⟨4, _⟩ => ⟨S49, .f32⟩
  | .hbm, ⟨5, _⟩ => ⟨S7, .i32⟩
  | .hbm, ⟨6, _⟩ => ⟨S7, .i32⟩
  | .hbm, ⟨7, _⟩ => ⟨S4x192x16x192, .f32⟩
  | .hbm, ⟨8, _⟩ => ⟨S49x49, .f32⟩
  | .hbm, ⟨9, _⟩ => ⟨S49x1, .f32⟩
  | .hbm, ⟨10, _⟩ => ⟨S49x49, .f32⟩
  | .hbm, ⟨11, _⟩ => ⟨S49x49, .f32⟩
  | .hbm, ⟨12, _⟩ => ⟨S64x1x16x49, .f32⟩
  | .hbm, ⟨13, _⟩ => ⟨S49x49, .f32⟩
  | .hbm, ⟨14, _⟩ => ⟨S1x49x1x49, .f32⟩
  | .hbm, ⟨15, _⟩ => ⟨S64x49x16x49, .f32⟩
  | .hbm, ⟨16, _⟩ => ⟨S64x49x16x49, .f32⟩
  | .hbm, ⟨17, _⟩ => ⟨S64x49x16x49, .f32⟩
  | .hbm, ⟨18, _⟩ => ⟨S_, .f32⟩
  | .hbm, ⟨19, _⟩ => ⟨S64x49x16, .f32⟩
  | .hbm, ⟨20, _⟩ => ⟨S64x784, .f32⟩
  | .hbm, ⟨21, _⟩ => ⟨S_, .f32⟩
  | .hbm, ⟨22, _⟩ => ⟨S64x15, .f32⟩
  | .hbm, ⟨23, _⟩ => ⟨S64x1, .f32⟩
  | .hbm, ⟨24, _⟩ => ⟨S64x785, .f32⟩
  | .hbm, ⟨25, _⟩ => ⟨S64x800, .f32⟩
  | .hbm, ⟨26, _⟩ => ⟨S64x800, .bf16⟩
  | .hbm, ⟨27, _⟩ => ⟨S7x234x192, .i32⟩
  | .hbm, ⟨28, _⟩ => ⟨S7x234x192, .i32⟩
  | .hbm, ⟨29, _⟩ => ⟨S7x1x1, .i32⟩
  | .hbm, ⟨30, _⟩ => ⟨S7x1x1, .i32⟩
  | .hbm, ⟨31, _⟩ => ⟨S_, .i32⟩
  | .hbm, ⟨32, _⟩ => ⟨S7x234x192, .i32⟩
  | .hbm, ⟨33, _⟩ => ⟨S7x234x192, .i32⟩
  | .hbm, ⟨34, _⟩ => ⟨S7x234x192, .i32⟩
  | .hbm, ⟨35, _⟩ => ⟨S7x234x192, .i32⟩
  | .hbm, ⟨36, _⟩ => ⟨S7x234x192, .i1⟩
  | .hbm, ⟨37, _⟩ => ⟨S7x234x192, .i32⟩
  | .hbm, ⟨38, _⟩ => ⟨S7x234x192, .i32⟩
  | .hbm, ⟨39, _⟩ => ⟨S7x234x192, .i1⟩
  | .hbm, ⟨40, _⟩ => ⟨S7x234x192, .i1⟩
  | .hbm, ⟨41, _⟩ => ⟨S_, .f32⟩
  | .hbm, ⟨42, _⟩ => ⟨S_, .f32⟩
  | .hbm, ⟨43, _⟩ => ⟨S7x234x192, .f32⟩
  | .hbm, ⟨44, _⟩ => ⟨S7x234x192, .f32⟩
  | .hbm, ⟨45, _⟩ => ⟨S7x234x192, .f32⟩
  | .hbm, ⟨46, _⟩ => ⟨S7x234x192, .bf16⟩
  | .hbm, ⟨47, _⟩ => ⟨S4x64x192x192, .f32⟩
  | .local _ .vmem, ⟨0, _⟩ => ⟨S1x192x16x192, .f32⟩
  | .local _ .vmem, ⟨1, _⟩ => ⟨S1x192x16x192, .f32⟩
  | .local _ .vmem, ⟨2, _⟩ => ⟨S64x800, .bf16⟩
  | .local _ .vmem, ⟨3, _⟩ => ⟨S7x234x192, .bf16⟩
  | .local _ .vmem, ⟨4, _⟩ => ⟨S1x64x32x192, .f32⟩
  | .local _ .vmem, ⟨5, _⟩ => ⟨S1x64x32x192, .f32⟩
  | .local _ .vmem, ⟨6, _⟩ => ⟨S32x800x192, .bf16⟩
  | .local _ .vmem, ⟨7, _⟩ => ⟨S214x16x234, .f32⟩
  | _, _ => ⟨S4x16x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_cst : Ref sig .tc := ⟨.hbm, 4, rfl⟩
abbrev main_call0_c_0 : Ref sig .tc := ⟨.hbm, 5, rfl⟩
abbrev main_call0_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_v12 : Ref sig .tc := ⟨.hbm, 20, rfl⟩
abbrev main_call0_cst_3 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_c_4 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_v30 : Ref sig .tc := ⟨.hbm, 40, rfl⟩
abbrev main_call0_cst_5 : Ref sig .tc := ⟨.hbm, 41, rfl⟩
abbrev main_call0_cst_6 : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_v31 : Ref sig .tc := ⟨.hbm, 45, rfl⟩
abbrev main_call0_v32 : Ref sig .tc := ⟨.hbm, 46, rfl⟩
abbrev main_v0 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 6], ![false, false]⟩

def k0_off1 (i : grid0.Coords) : Fin 3 → Nat :=
  let arg1 : BitVec 32 := BitVec.ofNat 32 (i 1).val
  let c32_i32 : BitVec 32 := 32#32
  let v3 : BitVec 32 := Scalar.muli arg1 c32_i32
  let v4 : Index := Scalar.indexCast v3
  let c0 : Index := 0#32
  let c0_1 : Index := 0#32
  ![v4.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x192x16x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x800 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S7x234x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x32x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x16x192x192 : Shape := ⟨4, ![4, 16, 192, 192]⟩
abbrev S64x784 : Shape := ⟨2, ![64, 784]⟩
abbrev S64 : Shape := ⟨1, ![64]⟩
abbrev S49x39 : Shape := ⟨2, ![49, 39]⟩
abbrev S49 : Shape := ⟨1, ![49]⟩
abbrev S_ : Shape := ⟨0, ![]⟩
abbrev S4x16x1x192 : Shape := ⟨4, ![4, 16, 1, 192]⟩
abbrev S4x16x3x192 : Shape := ⟨4, ![4, 16, 3, 192]⟩
abbrev S4x16x195x192 : Shape := ⟨4, ![4, 16, 195, 192]⟩
abbrev S4x16x198x192 : Shape := ⟨4, ![4, 16, 198, 192]⟩
abbrev S4x16x198x1 : Shape := ⟨4, ![4, 16, 198, 1]⟩
abbrev S4x16x198x3 : Shape := ⟨4, ![4, 16, 198, 3]⟩
abbrev S4x16x198x195 : Shape := ⟨4, ![4, 16, 198, 195]⟩
abbrev S4x16x198x198 : Shape := ⟨4, ![4, 16, 198, 198]⟩
abbrev S192 : Shape := ⟨1, ![192]⟩
abbrev S1x1x192 : Shape := ⟨3, ![1, 1, 192]⟩
abbrev S49x39x1 : Shape := ⟨3, ![49, 39, 1]⟩
abbrev S49x39x192 : Shape := ⟨3, ![49, 39, 192]⟩
abbrev S49x39x192x1 : Shape := ⟨4, ![49, 39, 192, 1]⟩
abbrev S49x39x1x192 : Shape := ⟨4, ![49, 39, 1, 192]⟩
abbrev S49x39x192x192 : Shape := ⟨4, ![49, 39, 192, 192]⟩
abbrev S49x39x192x192x1 : Shape := ⟨5, ![49, 39, 192, 192, 1]⟩
abbrev S49x39x192x192x2 : Shape := ⟨5, ![49, 39, 192, 192, 2]⟩
abbrev S4x16x49x39x192x192 : Shape := ⟨6, ![4, 16, 49, 39, 192, 192]⟩
abbrev S39 : Shape := ⟨1, ![39]⟩
abbrev S1x39 : Shape := ⟨2, ![1, 39]⟩
abbrev S49x1 : Shape := ⟨2, ![49, 1]⟩
abbrev S1x1x49x39x1x1 : Shape := ⟨6, ![1, 1, 49, 39, 1, 1]⟩
abbrev S4x16x49x192x192 : Shape := ⟨5, ![4, 16, 49, 192, 192]⟩
abbrev S1x1x49x1x1 : Shape := ⟨5, ![1, 1, 49, 1, 1]⟩
abbrev S4x784x192x192 : Shape := ⟨4, ![4, 784, 192, 192]⟩
abbrev S64x4x192x192 : Shape := ⟨4, ![64, 4, 192, 192]⟩
abbrev S4x64x192x192 : Shape := ⟨4, ![4, 64, 192, 192]⟩
abbrev S1x64x1x1 : Shape := ⟨4, ![1, 64, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4x16x192x192, .f32⟩
  | .hbm, ⟨1, _⟩ => ⟨S64x784, .f32⟩
  | .hbm, ⟨2, _⟩ => ⟨S64, .f32⟩
  | .hbm, ⟨3, _⟩ => ⟨S49x39, .i32⟩
  | .hbm, ⟨4, _⟩ => ⟨S49x39, .i32⟩
  | .hbm, ⟨5, _⟩ => ⟨S49, .i32⟩
  | .hbm, ⟨6, _⟩ => ⟨S49, .f32⟩
  | .hbm, ⟨7, _⟩ => ⟨S_, .i32⟩
  | .hbm, ⟨8, _⟩ => ⟨S4x16x1x192, .f32⟩
  | .hbm, ⟨9, _⟩ => ⟨S4x16x3x192, .f32⟩
  | .hbm, ⟨10, _⟩ => ⟨S4x16x3x192, .f32⟩
  | .hbm, ⟨11, _⟩ => ⟨S4x16x195x192, .f32⟩
  | .hbm, ⟨12, _⟩ => ⟨S4x16x1x192, .f32⟩
  | .hbm, ⟨13, _⟩ => ⟨S4x16x3x192, .f32⟩
  | .hbm, ⟨14, _⟩ => ⟨S4x16x3x192, .f32⟩
  | .hbm, ⟨15, _⟩ => ⟨S4x16x198x192, .f32⟩
  | .hbm, ⟨16, _⟩ => ⟨S4x16x198x1, .f32⟩
  | .hbm, ⟨17, _⟩ => ⟨S4x16x198x3, .f32⟩
  | .hbm, ⟨18, _⟩ => ⟨S4x16x198x3, .f32⟩
  | .hbm, ⟨19, _⟩ => ⟨S4x16x198x195, .f32⟩
  | .hbm, ⟨20, _⟩ => ⟨S4x16x198x1, .f32⟩
  | .hbm, ⟨21, _⟩ => ⟨S4x16x198x3, .f32⟩
  | .hbm, ⟨22, _⟩ => ⟨S4x16x198x3, .f32⟩
  | .hbm, ⟨23, _⟩ => ⟨S4x16x198x198, .f32⟩
  | .hbm, ⟨24, _⟩ => ⟨S192, .i32⟩
  | .hbm, ⟨25, _⟩ => ⟨S1x1x192, .i32⟩
  | .hbm, ⟨26, _⟩ => ⟨S_, .i32⟩
  | .hbm, ⟨27, _⟩ => ⟨S1x1x192, .i32⟩
  | .hbm, ⟨28, _⟩ => ⟨S1x1x192, .i32⟩
  | .hbm, ⟨29, _⟩ => ⟨S49x39x1, .i32⟩
  | .hbm, ⟨30, _⟩ => ⟨S49x39x192, .i32⟩
  | .hbm, ⟨31, _⟩ => ⟨S49x39x192, .i32⟩
  | .hbm, ⟨32, _⟩ => ⟨S49x39x192, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S49x39x192, .i32⟩
  | .hbm, ⟨37, _⟩ => ⟨S49x39x192, .i32⟩
  | .hbm, ⟨38, _⟩ => ⟨S_, .i32⟩
  | .hbm, ⟨39, _⟩ => ⟨S49x39x192, .i32⟩
  | .hbm, ⟨40, _⟩ => ⟨S49x39x192, .i32⟩
  | .hbm, ⟨41, _⟩ => ⟨S192, .i32⟩
  | .hbm, ⟨42, _⟩ => ⟨S1x1x192, .i32⟩
  | .hbm, ⟨43, _⟩ => ⟨S_, .i32⟩
  | .hbm, ⟨44, _⟩ => ⟨S1x1x192, .i32⟩
  | .hbm, ⟨45, _⟩ => ⟨S1x1x192, .i32⟩
  | .hbm, ⟨46, _⟩ => ⟨S49x39x1, .i32⟩
  | .hbm, ⟨47, _⟩ => ⟨S49x39x192, .i32⟩
  | .hbm, ⟨48, _⟩ => ⟨S49x39x192, .i32⟩
  | .hbm, ⟨49, _⟩ => ⟨S49x39x192, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S49x39x192, .i32⟩
  | .hbm, ⟨54, _⟩ => ⟨S49x39x192, .i32⟩
  | .hbm, ⟨55, _⟩ => ⟨S_, .i32⟩
  | .hbm, ⟨56, _⟩ => ⟨S49x39x192, .i32⟩
  | .hbm, ⟨57, _⟩ => ⟨S49x39x192, .i32⟩
  | .hbm, ⟨58, _⟩ => ⟨S49x39x192x1, .i32⟩
  | .hbm, ⟨59, _⟩ => ⟨S49x39x1x192, .i32⟩
  | .hbm, ⟨60, _⟩ => ⟨S_, .i32⟩
  | .hbm, ⟨61, _⟩ => ⟨S49x39x192x1, .i32⟩
  | .hbm, ⟨62, _⟩ => ⟨S49x39x192x1, .i1⟩
  | .hbm, ⟨63, _⟩ => ⟨S_, .i32⟩
  | .hbm, ⟨64, _⟩ => ⟨S49x39x192x1, .i32⟩
  | .hbm, ⟨65, _⟩ => ⟨S49x39x192x1, .i32⟩
  | .hbm, ⟨66, _⟩ => ⟨S49x39x192x1, .i32⟩
  | .hbm, ⟨67, _⟩ => ⟨S_, .i32⟩
  | .hbm, ⟨68, _⟩ => ⟨S49x39x1x192, .i32⟩
  | .hbm, ⟨69, _⟩ => ⟨S49x39x1x192, .i1⟩
  | .hbm, ⟨70, _⟩ => ⟨S_, .i32⟩
  | .hbm, ⟨71, _⟩ => ⟨S49x39x1x192, .i32⟩
  | .hbm, ⟨72, _⟩ => ⟨S49x39x1x192, .i32⟩
  | .hbm, ⟨73, _⟩ => ⟨S49x39x1x192, .i32⟩
  | .hbm, ⟨74, _⟩ => ⟨S49x39x192x192, .i32⟩
  | .hbm, ⟨75, _⟩ => ⟨S49x39x192x192, .i32⟩
  | .hbm, ⟨76, _⟩ => ⟨S49x39x192x192x1, .i32⟩
  | .hbm, ⟨77, _⟩ => ⟨S49x39x192x192x1, .i32⟩
  | .hbm, ⟨78, _⟩ => ⟨S49x39x192x192x2, .i32⟩
  | .hbm, ⟨79, _⟩ => ⟨S4x16x49x39x192x192, .f32⟩
  | .hbm, ⟨80, _⟩ => ⟨S39, .i32⟩
  | .hbm, ⟨81, _⟩ => ⟨S1x39, .i32⟩
  | .hbm, ⟨82, _⟩ => ⟨S49x1, .i32⟩
  | .hbm, ⟨83, _⟩ => ⟨S49x39, .i32⟩
  | .hbm, ⟨84, _⟩ => ⟨S49x39, .i32⟩
  | .hbm, ⟨85, _⟩ => ⟨S49x39, .i1⟩
  | .hbm, ⟨86, _⟩ => ⟨S1x1x49x39x1x1, .i1⟩
  | .hbm, ⟨87, _⟩ => ⟨S_, .f32⟩
  | .hbm, ⟨88, _⟩ => ⟨S_, .f32⟩
  | .hbm, ⟨89, _⟩ => ⟨S4x16x49x39x192x192, .i1⟩
  | .hbm, ⟨90, _⟩ => ⟨S4x16x49x39x192x192, .f32⟩
  | .hbm, ⟨91, _⟩ => ⟨S4x16x49x39x192x192, .f32⟩
  | .hbm, ⟨92, _⟩ => ⟨S_, .f32⟩
  | .hbm, ⟨93, _⟩ => ⟨S4x16x49x192x192, .f32⟩
  | .hbm, ⟨94, _⟩ => ⟨S1x1x49x1x1, .f32⟩
  | .hbm, ⟨95, _⟩ => ⟨S4x16x49x192x192, .f32⟩
  | .hbm, ⟨96, _⟩ => ⟨S4x16x49x192x192, .f32⟩
  | .hbm, ⟨97, _⟩ => ⟨S4x784x192x192, .f32⟩
  | .hbm, ⟨98, _⟩ => ⟨S64x4x192x192, .f32⟩
  | .hbm, ⟨99, _⟩ => ⟨S4x64x192x192, .f32⟩
  | .hbm, ⟨100, _⟩ => ⟨S1x64x1x1, .f32⟩
  | .hbm, ⟨101, _⟩ => ⟨S4x64x192x192, .f32⟩
  | .hbm, ⟨102, _⟩ => ⟨S4x64x192x192, .f32⟩
  | _, _ => ⟨S4x16x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_cst : Ref sig .tc := ⟨.hbm, 6, rfl⟩
abbrev main_c_2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_3 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_c_4 : Ref sig .tc := ⟨.hbm, 33, rfl⟩
abbrev main_c_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_6 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_7 : Ref sig .tc := ⟨.hbm, 50, rfl⟩
abbrev main_c_8 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_9 : Ref sig .tc := ⟨.hbm, 60, rfl⟩
abbrev main_v21 : Ref sig .tc := ⟨.hbm, 61, rfl⟩
abbrev main_v22 : Ref sig .tc := ⟨.hbm, 62, rfl⟩
abbrev main_c_10 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_c_11 : Ref sig .tc := ⟨.hbm, 67, rfl⟩
abbrev main_v26 : Ref sig .tc := ⟨.hbm, 68, rfl⟩
abbrev main_v27 : Ref sig .tc := ⟨.hbm, 69, rfl⟩
abbrev main_c_12 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v44 : Ref sig .tc := ⟨.hbm, 91, rfl⟩
abbrev main_cst_14 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩

abbrev nD : Nat := 1
abbrev τ : Topo := Topo.v7x

variable {F : FTy → Type} [FloatOps F]
-- ==== Proof.Cells.lean ====
module

public import Mathlib.Algebra.BigOperators.Fin
public import Mathlib.Algebra.BigOperators.Group.List.Lemmas
public import Mathlib.Data.Nat.Notation

/-!
The 49 positions of the foveated window and the 49 box sums that they are put together from, as lists of cells.

A cell is a pair of naturals (row, column), counted from the top left corner of the padded window: row 11 and column 21
are the pixel itself. A box sum is a rectangle of cells one row high or one column wide. Each position is the disjoint
union of one or two of the boxes, which is what `pos_perm` says.
-/

@[expose] public section

namespace Fov

/-- The `n` cells from (r, s) downwards. -/
def down (r s n : ℕ) : List (ℕ × ℕ) := (List.range n).map fun k => (r + k, s)
/-- The `n` cells from (r, s) upwards. -/
def up (r s n : ℕ) : List (ℕ × ℕ) := (List.range n).map fun k => (r - k, s)
/-- The `n` cells from (r, s) to the right. -/
def right (r s n : ℕ) : List (ℕ × ℕ) := (List.range n).map fun k => (r, s + k)
/-- The `n` cells from (r, s) to the left. -/
def left (r s n : ℕ) : List (ℕ × ℕ) := (List.range n).map fun k => (r, s - k)

/-- The cells of the 49 positions, each in the order the reference adds them. -/
def posTab : List (List (ℕ × ℕ)) :=
  [down 10 20 1,
   down 10 21 1,
   down 10 22 1,
   down 11 20 1,
   down 11 21 1,
   down 11 22 1,
   down 12 20 1,
   down 12 21 1,
   down 12 22 1,
   down 9 19 5 ++ (right 9 19 5).tail,
   down 9 20 5,
   down 9 21 5,
   down 9 22 5,
   down 9 23 5 ++ (left 9 23 5).tail,
   right 10 19 5,
   left 10 23 5,
   right 11 19 5,
   left 11 23 5,
   right 12 19 5,
   left 12 23 5,
   up 13 19 5 ++ (right 13 19 5).tail,
   up 13 20 5,
   up 13 21 5,
   up 13 22 5,
   up 13 23 5 ++ (left 13 23 5).tail,
   down 8 18 15 ++ (right 8 18 25).tail,
   down 8 19 15,
   down 8 20 15,
   down 8 21 15,
   down 8 22 15,
   down 8 23 15,
   down 8 24 15 ++ (left 8 24 25).tail,
   right 9 18 25,
   left 9 24 25,
   right 10 18 25,
   left 10 24 25,
   right 11 18 25,
   left 11 24 25,
   right 12 18 25,
   left 12 24 25,
   right 13 18 25,
   left 13 24 25,
   up 14 18 15 ++ (right 14 18 25).tail,
   up 14 19 15,
   up 14 20 15,
   up 14 21 15,
   up 14 22 15,
   up 14 23 15,
   up 14 24 15 ++ (left 14 24 25).tail]

/-- The boxes: first row, number of rows, first column, number of columns. -/
def basisTab : List (ℕ × ℕ × ℕ × ℕ) :=
  [(10, 1, 20, 1), (10, 1, 21, 1), (10, 1, 22, 1), (11, 1, 20, 1), (11, 1, 21, 1), (11, 1, 22, 1),
   (12, 1, 20, 1), (12, 1, 21, 1), (12, 1, 22, 1), (9, 5, 19, 1), (9, 1, 20, 4), (9, 5, 20, 1),
   (9, 5, 21, 1), (9, 5, 22, 1), (9, 5, 23, 1), (9, 1, 19, 4), (10, 1, 19, 5), (11, 1, 19, 5),
   (12, 1, 19, 5), (13, 1, 20, 4), (13, 1, 19, 4), (8, 15, 18, 1), (8, 1, 19, 24), (8, 15, 19, 1),
   (8, 15, 20, 1), (8, 15, 21, 1), (8, 15, 22, 1), (8, 15, 23, 1), (8, 15, 24, 1), (8, 1, 0, 24),
   (9, 1, 18, 25), (9, 1, 0, 25), (10, 1, 18, 25), (10, 1, 0, 25), (11, 1, 18, 25), (11, 1, 0, 25),
   (12, 1, 18, 25), (12, 1, 0, 25), (13, 1, 18, 25), (13, 1, 0, 25), (0, 15, 18, 1), (14, 1, 19, 24),
   (0, 15, 19, 1), (0, 15, 20, 1), (0, 15, 21, 1), (0, 15, 22, 1), (0, 15, 23, 1), (0, 15, 24, 1),
   (14, 1, 0, 24)]

/-- The boxes of each position. -/
def selTab : List (List ℕ) :=
  [[0], [1], [2], [3], [4], [5], [6], [7], [8], [9, 10],
   [11], [12], [13], [14, 15], [16], [16], [17], [17], [18], [18],
   [9, 19], [11], [12], [13], [14, 20], [21, 22], [23], [24], [25], [26],
   [27], [28, 29], [30], [31], [32], [33], [34], [35], [36], [37],
   [38], [39], [40, 41], [42], [43], [44], [45], [46], [47, 48]]

/-- The cells of position `p`. -/
def pos (p : ℕ) : List (ℕ × ℕ) := posTab.getD p []

/-- Box `m`. -/
def basis (m : ℕ) : ℕ × ℕ × ℕ × ℕ := basisTab.getD m (0, 0, 0, 0)

/-- The cells of the box with the given corner and extents. -/
def boxCells (b : ℕ × ℕ × ℕ × ℕ) : List (ℕ × ℕ) :=
  (List.range b.2.1).flatMap fun i => (List.range b.2.2.2).map fun j => (b.1 + i, b.2.2.1 + j)

/-- Whether position `p` uses box `m`. -/
def sel (p m : ℕ) : Bool := (selTab.getD p []).contains m

set_option maxRecDepth 100000 in
/-- The cells of a position's boxes, together, are the cells of the position. -/
theorem pos_perm : ∀ p : Fin 49,
    List.Perm (((List.finRange 49).filter fun m => sel p m).flatMap fun m => boxCells (basis m)) (pos p) := by
  decide +kernel

/-- Every cell of a position lies in the window of 23 rows and 43 columns. -/
theorem pos_bound : ∀ p : Fin 49, ∀ c ∈ pos p, c.1 < 23 ∧ c.2 < 43 := by
  decide +kernel

/-- The number of cells of a position is between 1 and 39. -/
theorem pos_length : ∀ p : Fin 49, 0 < (pos p).length ∧ (pos p).length ≤ 39 := by
  decide +kernel

/-- Every box lies in the window, and so do the rows and columns it spans. -/
theorem basis_bound : ∀ m : Fin 49, (basis m).1 + (basis m).2.1 ≤ 23 ∧ (basis m).2.2.1 + (basis m).2.2.2 ≤ 43 := by
  decide +kernel

section Sums

variable {M : Type*} [AddCommMonoid M] (f : ℕ × ℕ → M)

/-- The sum of `f` over the cells of a box. -/
def boxSum (b : ℕ × ℕ × ℕ × ℕ) : M := ((boxCells b).map f).sum

/-- The sum over the cells a list's members have, is the sum of their sums. -/
theorem sum_flatMap {α : Type*} (l : List α) (g : α → List (ℕ × ℕ)) :
    ((l.flatMap g).map f).sum = (l.map fun a => ((g a).map f).sum).sum := by
  induction l with
  | nil => simp
  | cons a l ih => simp [List.flatMap_cons, ih]

/-- A sum over the members that pass a test is the sum of all with 0 at the others. -/
theorem sum_filter_map {α : Type*} (l : List α) (q : α → Bool) (g : α → M) :
    ((l.filter q).map g).sum = (l.map fun a => if q a then g a else 0).sum := by
  induction l with
  | nil => simp
  | cons a l ih => by_cases h : q a <;> simp [h, ih]

/-- A position's sum is the sum of its boxes' sums. -/
theorem pos_sum (p : Fin 49) :
    (∑ m : Fin 49, if sel p m then boxSum f (basis m) else 0) = ((pos p).map f).sum := by
  rw [← ((pos_perm p).map f).sum_eq, sum_flatMap, sum_filter_map, ← List.sum_ofFn, List.ofFn_eq_map]
  rfl

/-- A list's sum as the sum over a longer range of places, with 0 past the end. -/
theorem sum_getD (l : List (ℕ × ℕ)) (n : ℕ) (h : l.length ≤ n) :
    (l.map f).sum = ∑ k : Fin n, if k.val < l.length then f (l.getD k (0, 0)) else 0 := by
  induction l generalizing n with
  | nil => simp
  | cons a l ih =>
    cases n with
    | zero => simp at h
    | succ n =>
      rw [List.map_cons, List.sum_cons, ih n (by simpa using h), Fin.sum_univ_succ]
      simp

/-- A box one cell high and one wide. -/
theorem boxSum_one (r s : ℕ) : boxSum f (r, 1, s, 1) = f (r, s) := by
  simp [boxSum, boxCells]

/-- A box one column wide, as a sum over its rows. -/
theorem boxSum_col (r s n : ℕ) : boxSum f (r, n, s, 1) = ∑ k : Fin n, f (r + k, s) := by
  rw [← List.sum_ofFn]
  simp [boxSum, boxCells, List.ofFn_eq_map, ← List.map_coe_finRange_eq_range, List.flatMap_map, Function.comp_def, ← List.map_eq_flatMap]

/-- A box one row high, as a sum over its columns. -/
theorem boxSum_row (r s n : ℕ) : boxSum f (r, 1, s, n) = ∑ k : Fin n, f (r, s + k) := by
  rw [← List.sum_ofFn]
  simp [boxSum, boxCells, List.ofFn_eq_map, ← List.map_coe_finRange_eq_range, Function.comp_def]

end Sums

end Fov
-- ==== Proof.Reference.lean ====
module

public import proofs.«01_k».proof.Proof.Gen.ReferenceIdeal.Run
public import proofs.«01_k».proof.Proof.Cells
public import Idealize.ShloMosaic.Lib.Pointwise

/-!
The reference, read at an index.
-/

@[expose] public section

set_option maxRecDepth 16384

noncomputable section

namespace Fov

open Cert.ReferenceIdeal Cert.ReferenceIdeal.Gen Cert.ReferenceIdeal.Value Idealize.ShloMosaic Idealize.ShloMosaic.TcCoe Idealize.SL.Sem
open Idealize.ShloMosaic.Pointwise

/-- The place of the image that place `q` of a line mirrored by 3 on both sides shows. -/
def mirror (q : ℕ) : ℕ := if q < 3 then 3 - q else if q < 195 then q - 3 else 385 - q

/-- It is a place of the image. -/
theorem mirror_lt (q : ℕ) (h : q < 198) : mirror q < 192 := by
  unfold mirror
  split_ifs <;> omega

/-- The image with three mirrored rows above it. -/
def rowsAbove (x : FVec Ideal S4x16x192x192 .f32) : FVec Ideal S4x16x195x192 .f32 :=
  concatenate S4x16x195x192 2 [⟨S4x16x3x192, Host.reverse [2] (extractStridedSlice S4x16x3x192 ![0, 0, 1, 0] x slices_S4x16x192x192_S4x16x3x192_0_0_1_0)⟩, ⟨S4x16x192x192, x⟩] concatenates_S4x16x3x192_S4x16x192x192_S4x16x195x192_d2

/-- The image with three mirrored rows above and below. -/
def rowsBoth (x : FVec Ideal S4x16x192x192 .f32) : FVec Ideal S4x16x198x192 .f32 :=
  concatenate S4x16x198x192 2 [⟨S4x16x195x192, rowsAbove x⟩, ⟨S4x16x3x192, Host.reverse [2] (extractStridedSlice S4x16x3x192 ![0, 0, 191, 0] (rowsAbove x) slices_S4x16x195x192_S4x16x3x192_0_0_191_0)⟩] concatenates_S4x16x195x192_S4x16x3x192_S4x16x198x192_d2

/-- Those rows with three mirrored columns on the left. -/
def colsLeft (r : FVec Ideal S4x16x198x192 .f32) : FVec Ideal S4x16x198x195 .f32 :=
  concatenate S4x16x198x195 3 [⟨S4x16x198x3, Host.reverse [3] (extractStridedSlice S4x16x198x3 ![0, 0, 0, 1] r slices_S4x16x198x192_S4x16x198x3_0_0_0_1)⟩, ⟨S4x16x198x192, r⟩] concatenates_S4x16x198x3_S4x16x198x192_S4x16x198x195_d3

/-- Those rows with three mirrored columns on both sides. -/
def colsBoth (r : FVec Ideal S4x16x198x192 .f32) : FVec Ideal S4x16x198x198 .f32 :=
  concatenate S4x16x198x198 3 [⟨S4x16x198x195, colsLeft r⟩, ⟨S4x16x198x3, Host.reverse [3] (extractStridedSlice S4x16x198x3 ![0, 0, 0, 191] (colsLeft r) slices_S4x16x198x195_S4x16x198x3_0_0_0_191)⟩] concatenates_S4x16x198x195_S4x16x198x3_S4x16x198x198_d3

/-- The rows above, at an index. -/
theorem rowsAbove_apply (x : FVec Ideal S4x16x192x192 .f32) (b : Fin 4) (c : Fin 16) (i : Fin 195) (j : Fin 192) :
    rowsAbove x (ix4 b c i j) = x (ix4 b c ⟨mirror i.val, mirror_lt _ (by omega)⟩ j) := by
  unfold rowsAbove
  pointwise
  split_ifs <;> (refine congrArg x (funext fun a => Fin.ext ?_); fin_cases a <;> simp [mirror, Fin.val_rev] <;> (try split_ifs) <;> omega)

/-- The rows on both sides, at an index. -/
theorem rowsBoth_apply (x : FVec Ideal S4x16x192x192 .f32) (b : Fin 4) (c : Fin 16) (i : Fin 198) (j : Fin 192) :
    rowsBoth x (ix4 b c i j) = x (ix4 b c ⟨mirror i.val, mirror_lt _ i.isLt⟩ j) := by
  have hi := i.isLt
  unfold rowsBoth
  pointwise
  by_cases h : i.val < 195
  · rw [dif_pos h, rowsAbove_apply]
  · rw [dif_neg h]
    refine (congrArg (rowsAbove x) (?_ : _ = (ix4 b c (⟨388 - i.val, by omega⟩ : Fin 195) j : S4x16x195x192.Idx))).trans ((rowsAbove_apply x b c _ j).trans ?_)
    · funext a
      apply Fin.ext
      fin_cases a <;> simp [Fin.val_rev] <;> omega
    · refine congrArg x (funext fun a => Fin.ext ?_)
      fin_cases a <;> simp [mirror] <;> (try split_ifs) <;> omega

/-- The columns on the left, at an index. -/
theorem colsLeft_apply (x : FVec Ideal S4x16x198x192 .f32) (b : Fin 4) (c : Fin 16) (i : Fin 198) (j : Fin 195) :
    colsLeft x (ix4 b c i j) = x (ix4 b c i ⟨mirror j.val, mirror_lt _ (by omega)⟩) := by
  unfold colsLeft
  pointwise
  split_ifs <;> (refine congrArg x (funext fun a => Fin.ext ?_); fin_cases a <;> simp [mirror, Fin.val_rev] <;> (try split_ifs) <;> omega)

/-- The columns on both sides, at an index. -/
theorem colsBoth_apply (x : FVec Ideal S4x16x198x192 .f32) (b : Fin 4) (c : Fin 16) (i : Fin 198) (j : Fin 198) :
    colsBoth x (ix4 b c i j) = x (ix4 b c i ⟨mirror j.val, mirror_lt _ j.isLt⟩) := by
  have hj := j.isLt
  unfold colsBoth
  pointwise
  by_cases h : j.val < 195
  · rw [dif_pos h, colsLeft_apply]
  · rw [dif_neg h]
    refine (congrArg (colsLeft x) (?_ : _ = (ix4 b c i (⟨388 - j.val, by omega⟩ : Fin 195) : S4x16x198x195.Idx))).trans ((colsLeft_apply x b c i _).trans ?_)
    · funext a
      apply Fin.ext
      fin_cases a <;> simp [Fin.val_rev] <;> omega
    · refine congrArg x (funext fun a => Fin.ext ?_)
      fin_cases a <;> simp [mirror] <;> (try split_ifs) <;> omega

/-- The place that is looked up for a pixel at `t` and an offset `d`: kept inside the mirrored line, and a negative one
would count from the end. -/
def spot (t : ℕ) (d : BitVec 32) : BitVec 32 :=
  Scalar.select (IntOp.cmpi .slt (IntOp.minsi 197#32 (IntOp.maxsi 0#32 (IntOp.addi (IntOp.addi (BitVec.ofNat 32 t) 3#32) d))) 0#32)
    (IntOp.addi (IntOp.minsi 197#32 (IntOp.maxsi 0#32 (IntOp.addi (IntOp.addi (BitVec.ofNat 32 t) 3#32) d))) 198#32)
    (IntOp.minsi 197#32 (IntOp.maxsi 0#32 (IntOp.addi (IntOp.addi (BitVec.ofNat 32 t) 3#32) d)))

/-- The table of one coordinate: for each position and cell the place, kept inside the mirrored line. -/
def places (L : IVec S49x39 32) : IVec S49x39x192 32 :=
  minsi (broadcastInDim S49x39x192 ![] bcast_S_S49x39x192 (id (constantI S_ 32 197#32))) (maxsi (broadcastInDim S49x39x192 ![] bcast_S_S49x39x192 (id (constantI S_ 32 0#32))) (addi (broadcastInDim S49x39x192 ![0, 1, 2] bcast_S1x1x192_S49x39x192_0_1_2 (addi (broadcastInDim S1x1x192 ![2] bcast_S192_S1x1x192_2 (iotaInDim S192 32 0)) (broadcastInDim S1x1x192 ![] bcast_S_S1x1x192 (constantI S_ 32 3#32)))) (broadcastInDim S49x39x192 ![0, 1, 2] bcast_S49x39x1_S49x39x192_0_1_2 (broadcastInDim S49x39x1 ![0, 1] bcast_S49x39_S49x39x1_0_1 L))))

/-- The rows and columns that are looked up. -/
def lookups (L0 L1 : IVec S49x39 32) : IVec S49x39x192x192x2 32 :=
  concatenate S49x39x192x192x2 4 [⟨S49x39x192x192x1, broadcastInDim S49x39x192x192x1 ![0, 1, 2, 3] bcast_S49x39x192x192_S49x39x192x192x1_0_1_2_3 (broadcastInDim S49x39x192x192 ![0, 1, 2, 3] bcast_S49x39x192x1_S49x39x192x192_0_1_2_3
      (select (cmpi .slt (broadcastInDim S49x39x192x1 ![0, 1, 2] bcast_S49x39x192_S49x39x192x1_0_1_2 (places L0)) (broadcastInDim S49x39x192x1 ![] bcast_S_S49x39x192x1 (constantI S_ 32 0#32)))
        (addi (broadcastInDim S49x39x192x1 ![0, 1, 2] bcast_S49x39x192_S49x39x192x1_0_1_2 (places L0)) (broadcastInDim S49x39x192x1 ![] bcast_S_S49x39x192x1 (constantI S_ 32 198#32)))
        (broadcastInDim S49x39x192x1 ![0, 1, 2] bcast_S49x39x192_S49x39x192x1_0_1_2 (places L0))))⟩,
    ⟨S49x39x192x192x1, broadcastInDim S49x39x192x192x1 ![0, 1, 2, 3] bcast_S49x39x192x192_S49x39x192x192x1_0_1_2_3 (broadcastInDim S49x39x192x192 ![0, 1, 2, 3] bcast_S49x39x1x192_S49x39x192x192_0_1_2_3
      (select (cmpi .slt (broadcastInDim S49x39x1x192 ![0, 1, 3] bcast_S49x39x192_S49x39x1x192_0_1_3 (places L1)) (broadcastInDim S49x39x1x192 ![] bcast_S_S49x39x1x192 (constantI S_ 32 0#32)))
        (addi (broadcastInDim S49x39x1x192 ![0, 1, 3] bcast_S49x39x192_S49x39x1x192_0_1_3 (places L1)) (broadcastInDim S49x39x1x192 ![] bcast_S_S49x39x1x192 (constantI S_ 32 198#32)))
        (broadcastInDim S49x39x1x192 ![0, 1, 3] bcast_S49x39x192_S49x39x1x192_0_1_3 (places L1))))⟩] concatenates_S49x39x192x192x1_S49x39x192x192x1_S49x39x192x192x2_d4

/-- The row that is looked up. -/
theorem lookups_row (L0 L1 : IVec S49x39 32) (p : Fin 49) (k : Fin 39) (y x : Fin 192) :
    lookups L0 L1 (ix5 p k y x 0) = spot y.val (L0 (ix2 p k)) := by
  unfold lookups places
  pointwise
  rfl

/-- The column that is looked up. -/
theorem lookups_col (L0 L1 : IVec S49x39 32) (p : Fin 49) (k : Fin 39) (y x : Fin 192) :
    lookups L0 L1 (ix5 p k y x 1) = spot x.val (L1 (ix2 p k)) := by
  unfold lookups places
  pointwise
  rfl

/-- The lookup itself. -/
theorem gather_apply (A : FVec Ideal S4x16x198x198 .f32) (I : IVec S49x39x192x192x2 32) (b : Fin 4) (c : Fin 16) (p : Fin 49) (k : Fin 39) (y x : Fin 192) :
    Host.gather gather_S4x16x198x198_S49x39x192x192x2_S4x16x49x39x192x192_01_23_n_n_23_4_41611 A I (ix6 b c p k y x)
      = A (ix4 b c ⟨min (I (ix5 p k y x 0)).toInt.toNat 197, by omega⟩ ⟨min (I (ix5 p k y x 1)).toInt.toNat 197, by omega⟩) := by
  have e0 : ∀ h, GatherDims.siIdx gather_S4x16x198x198_S49x39x192x192x2_S4x16x49x39x192x192_01_23_n_n_23_4_41611 (ix6 b c p k y x) ⟨0, h⟩ = ix5 p k y x 0 := by
    intro h
    funext a
    apply Fin.ext
    fin_cases a <;> rfl
  have e1 : ∀ h, GatherDims.siIdx gather_S4x16x198x198_S49x39x192x192x2_S4x16x49x39x192x192_01_23_n_n_23_4_41611 (ix6 b c p k y x) ⟨1, h⟩ = ix5 p k y x 1 := by
    intro h
    funext a
    apply Fin.ext
    fin_cases a <;> rfl
  unfold Host.gather
  congr 1
  funext a
  apply Fin.ext
  simp only [GatherDims.operandIdx]
  fin_cases a
  · rw [GatherDims.batchCoord_eq_zero _ _ _ (by exact List.not_mem_nil), GatherDims.start, dif_neg (by decide), GatherDims.offCoord, dif_pos (by decide)]
    exact (Nat.zero_add _).trans rfl
  · rw [GatherDims.batchCoord_eq_zero _ _ _ (by exact List.not_mem_nil), GatherDims.start, dif_neg (by decide), GatherDims.offCoord, dif_pos (by decide)]
    exact (Nat.zero_add _).trans rfl
  · rw [GatherDims.batchCoord_eq_zero _ _ _ (by exact List.not_mem_nil), GatherDims.start, dif_pos (by decide), GatherDims.offCoord, dif_neg (by decide)]
    exact congrArg (fun i => min (I i).toInt.toNat 197) (e0 _)
  · rw [GatherDims.batchCoord_eq_zero _ _ _ (by exact List.not_mem_nil), GatherDims.start, dif_pos (by decide), GatherDims.offCoord, dif_neg (by decide)]
    exact congrArg (fun i => min (I i).toInt.toNat 197) (e1 _)

/-- A sum over the fourth of six axes. -/
theorem sum_cells (h : S4x16x49x39x192x192.ReducesTo [3] S4x16x49x192x192) (v : S4x16x49x39x192x192.Idx → EReal) (z : EReal)
    (b : Fin 4) (c : Fin 16) (p : Fin 49) (y x : Fin 192) :
    Ideal.hostReduceAdd h v z (ix5 b c p y x) = z + ∑ k : Fin 39, v (ix6 b c p k y x) := by
  unfold Ideal.hostReduceAdd
  congr 1
  refine Finset.sum_filter_eq_sum_of_fiber _ (fun k : Fin 39 => (ix6 b c p k y x : S4x16x49x39x192x192.Idx)) (fun _ _ e => congrFun e 3) ?_ v
  intro i
  constructor
  · intro e
    refine ⟨i 3, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => rfl
    | ⟨4, _⟩ => exact (congrArg Fin.val (congrFun e ⟨3, by decide⟩)).symm
    | ⟨5, _⟩ => exact (congrArg Fin.val (congrFun e ⟨4, by decide⟩)).symm
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The result from the looked up cells `g`. -/
def outcome (C : IVec S49 32) (N : FVec Ideal S49 .f32) (g : FVec Ideal S4x16x49x39x192x192 .f32) (W : FVec Ideal S64x784 .f32) (b : FVec Ideal S64 .f32) : FVec Ideal S4x64x192x192 .f32 :=
  addf (transpose S4x64x192x192 [1, 0, 2, 3] (Host.dotGeneral dot_S64x784_S4x784x192x192_S64x4x192x192_1_1_0_023_n_n none W (shapeCast S4x784x192x192 (Host.divf (Host.reduceAdd
    (select (broadcastInDim S4x16x49x39x192x192 ![0, 1, 2, 3, 4, 5] bcast_S1x1x49x39x1x1_S4x16x49x39x192x192_0_1_2_3_4_5 (broadcastInDim S1x1x49x39x1x1 ![2, 3] bcast_S49x39_S1x1x49x39x1x1_2_3 (cmpi .slt (broadcastInDim S49x39 ![0, 1] bcast_S1x39_S49x39_0_1 (broadcastInDim S1x39 ![1] bcast_S39_S1x39_1 (iotaInDim S39 32 0))) (broadcastInDim S49x39 ![0, 1] bcast_S49x1_S49x39_0_1 (broadcastInDim S49x1 ![0] bcast_S49_S49x1_0 C)))))
      g (broadcastInDim S4x16x49x39x192x192 ![] bcast_S_S4x16x49x39x192x192 (id (constant S_ .f32 0x00000000#32))))
    (constant S_ .f32 0x00000000#32) reducesTo_S4x16x49x39x192x192_S4x16x49x192x192_d3 h_S_)
    (broadcastInDim S4x16x49x192x192 ![0, 1, 2, 3, 4] bcast_S1x1x49x1x1_S4x16x49x192x192_0_1_2_3_4 (broadcastInDim S1x1x49x1x1 ![2] bcast_S49_S1x1x49x1x1_2 N))) shapeCasts_S4x16x49x192x192_S4x784x192x192)) transposes_S64x4x192x192_S4x64x192x192_1_0_2_3)
    (broadcastInDim S4x64x192x192 ![0, 1, 2, 3] bcast_S1x64x1x1_S4x64x192x192_0_1_2_3 (broadcastInDim S1x64x1x1 ![1] bcast_S64_S1x64x1x1_1 b))

/-- The result at an index. -/
theorem outcome_apply (C : IVec S49 32) (N : FVec Ideal S49 .f32) (g : FVec Ideal S4x16x49x39x192x192 .f32) (W : FVec Ideal S64x784 .f32) (b : FVec Ideal S64 .f32)
    (n : Fin 4) (o : Fin 64) (y x : Fin 192) :
    outcome C N g W b (ix4 n o y x) = (∑ j : Fin 784, W (ix2 o j) * Ideal.div
      (∑ k : Fin 39, if IntOp.cmpi .slt (BitVec.ofNat 32 k.val) (C (ix1 ⟨j.val % 49, by omega⟩)) = 1#1 then g (ix6 n ⟨j.val / 49, by omega⟩ ⟨j.val % 49, by omega⟩ k y x) else 0)
      (N (ix1 ⟨j.val % 49, by omega⟩))) + b (ix1 o) := by
  unfold outcome
  pointwise
  simp only [sum_cells]
  pointwise
  have hz : (id (constant (F := Ideal) S_ .f32 0#32) ix0 : EReal) = 0 := Ideal.ofBits_zero_f32
  simp only [hz, Scalar.select]
  rfl

variable (m : (ℓ : Loc nD τ sig) → Buf (Elt Ideal) ℓ)

/-- The reference's result by its stages. -/
theorem res_stages (c : Dev nD) : (res_main_v54 m c : FVec Ideal S4x64x192x192 .f32) =
    outcome (fun i => lit2 (S49.rowMajor i)) (fun i => FloatOps.ofBits (F := Ideal) .f32 (lit3 (S49.rowMajor i)))
      (Host.gather gather_S4x16x198x198_S49x39x192x192x2_S4x16x49x39x192x192_01_23_n_n_23_4_41611 (colsBoth (rowsBoth (m ((c.tc : Thread nD τ).loc main_arg0))))
        (lookups (fun i => lit0 (S49x39.rowMajor i)) (fun i => lit1 (S49x39.rowMajor i))))
      (m ((c.tc : Thread nD τ).loc main_arg1)) (m ((c.tc : Thread nD τ).loc main_arg2)) := by
  unfold res_main_v54 outcome colsBoth colsLeft rowsBoth rowsAbove lookups places
  rfl

end Fov
-- ==== Proof.Block.lean ====
module

public import proofs.«01_k».proof.Proof.Gen.KernelIdeal.Skeleton
public import proofs.«01_k».proof.Proof.Cells
public import Idealize.ShloMosaic.Lib.Pointwise
public import Idealize.ShloMosaic.Lib.Pipeline.Value

/-!
The feature block of one grid point. The kernel stores 49 slabs of 16 rows, one for each box, and a last slab that holds
the row of ones for the bias; read back, the block is `feat`.

Everything here is stated for a tile `v5` that is given by a function `P` of row, channel and column.
-/

@[expose] public section

set_option maxRecDepth 16384

noncomputable section

namespace Fov

open Cert.KernelIdeal Cert.KernelIdeal.Gen Idealize.ShloMosaic Idealize.ShloMosaic.Pointwise

/-- The sum over box `b` placed at row `h` and column `w` of channel `c`. -/
def boxAt (P : ℕ → ℕ → ℕ → EReal) (b : ℕ × ℕ × ℕ × ℕ) (h c w : ℕ) : EReal :=
  boxSum (fun q => P (h + q.1) c (w + q.2)) b

/-- The feature block: row 16 m + c holds the sums over box `m` of channel `c`, row 784 holds ones, the rest is 0. -/
def feat (P : ℕ → ℕ → ℕ → EReal) (h k w : ℕ) : EReal :=
  if k < 784 then boxAt P (basis (k / 16)) h (k % 16) w else if k = 784 then 1 else 0

/-- The rows of the feature block that slab `m` fills. -/
theorem feat_slab (P : ℕ → ℕ → ℕ → EReal) (m h c w : ℕ) (hm : m < 49) (hc : c < 16) :
    feat P h (16 * m + c) w = boxAt P (basis m) h c w := by
  rw [feat, if_pos (by omega), show (16 * m + c) / 16 = m by omega, show (16 * m + c) % 16 = c by omega]

/-- A sum against a band of ones is the sum over the band. -/
theorem band_sum (f : ℕ → EReal) (a L n : ℕ) (h : a + L ≤ n) :
    (∑ u : Fin n, f u.val * (if a ≤ u.val ∧ u.val < a + L then (1 : EReal) else 0)) = ∑ k : Fin L, f (a + k.val) := by
  rw [Fin.sum_univ_eq_sum_range (fun u => f u * (if a ≤ u ∧ u < a + L then (1 : EReal) else 0)) n,
    Fin.sum_univ_eq_sum_range (fun k => f (a + k)) L]
  simp only [mul_ite, mul_one, mul_zero]
  rw [← Finset.sum_filter]
  refine (Finset.sum_bij (fun k _ => a + k) ?_ ?_ ?_ ?_).symm
  · intro k hk
    simp only [Finset.mem_range, Finset.mem_filter] at hk ⊢
    omega
  · intro k _ l _ e
    omega
  · intro u hu
    simp only [Finset.mem_range, Finset.mem_filter] at hu
    exact ⟨u - a, Finset.mem_range.2 (by omega), by omega⟩
  · intro k _
    rfl

/-- A band matrix: at (u, w) it is 1 when `u` is one of the `L` places from `w + s` on, and 0 otherwise. -/
def Band (hb : Vec Ideal S1x234x192 .bf16) (L s : ℕ) : Prop :=
  ∀ (u : Fin 234) (w : Fin 192), hb (ix3 0 u w) = if w.val + s ≤ u.val ∧ u.val < w.val + s + L then (1 : EReal) else 0

variable (P : ℕ → ℕ → ℕ → EReal) (v5 : Vec Ideal S54x16x234 .f32) (hv : ∀ (a : Fin 54) (b : Fin 16) (c : Fin 234), v5 (ix3 a b c) = P a.val b.val c.val)
include hv

/-- Two rows added. -/
theorem pay12_apply (a : Fin 53) (b : Fin 16) (c : Fin 234) :
    k0_pay12 v5 (ix3 a b c) = P a.val b.val c.val + P (1 + a.val) b.val c.val := by
  pointwise [k0_pay12]
  simp only [hv]

/-- Four rows added. -/
theorem pay13_apply (a : Fin 51) (b : Fin 16) (c : Fin 234) :
    k0_pay13 v5 (ix3 a b c) = ∑ k : Fin 4, P (a.val + k.val) b.val c.val := by
  pointwise [k0_pay13]
  simp only [pay12_apply P v5 hv]
  simp only [Fin.sum_univ_succ, Fin.sum_univ_zero]
  simp [add_assoc, Nat.add_comm, Nat.add_left_comm]

/-- Five rows added. -/
theorem pay14_apply (a : Fin 50) (b : Fin 16) (c : Fin 234) :
    k0_pay14 v5 (ix3 a b c) = ∑ k : Fin 5, P (a.val + k.val) b.val c.val := by
  pointwise [k0_pay14]
  simp only [pay13_apply P v5 hv, hv]
  rw [Fin.sum_univ_castSucc (n := 4)]
  simp [Nat.add_comm]

/-- Fifteen rows added. -/
theorem pay15_apply (a : Fin 40) (b : Fin 16) (c : Fin 234) :
    k0_pay15 v5 (ix3 a b c) = ∑ k : Fin 15, P (a.val + k.val) b.val c.val := by
  pointwise [k0_pay15]
  simp only [pay13_apply P v5 hv, pay12_apply P v5 hv, hv]
  simp only [Fin.sum_univ_succ, Fin.sum_univ_zero]
  simp [add_assoc, Nat.add_comm, Nat.add_left_comm]

/-- The product with band 0: 5 columns added. -/
theorem pay17_apply (hb : Vec Ideal S1x234x192 .bf16) (hB : Band hb 5 19) (a : Fin 38) (b : Fin 16) (c : Fin 192) :
    k0_pay17 v5 hb (ix3 a b c) = ∑ k : Fin 5, P (8 + a.val) b.val (c.val + 19 + k.val) := by
  pointwise [k0_pay17, k0_pay16]
  have h1 : b.val < 16 := b.isLt
  have h2 : c.val < 192 := c.isLt
  show _ = ∑ k : Fin 5, P (8 + a.val) b.val (c.val + 19 + k.val)
  rw [← band_sum (P (8 + a.val) b.val) (c.val + 19) 5 234 (by omega)]
  refine Finset.sum_congr rfl fun u _ => ?_
  rw [hv, hB u c]

/-- The product with band 1: 4 columns added. -/
theorem pay18_apply (hb : Vec Ideal S1x234x192 .bf16) (hB : Band hb 4 20) (a : Fin 38) (b : Fin 16) (c : Fin 192) :
    k0_pay18 v5 hb (ix3 a b c) = ∑ k : Fin 4, P (8 + a.val) b.val (c.val + 20 + k.val) := by
  pointwise [k0_pay18, k0_pay16]
  have h1 : b.val < 16 := b.isLt
  have h2 : c.val < 192 := c.isLt
  show _ = ∑ k : Fin 4, P (8 + a.val) b.val (c.val + 20 + k.val)
  rw [← band_sum (P (8 + a.val) b.val) (c.val + 20) 4 234 (by omega)]
  refine Finset.sum_congr rfl fun u _ => ?_
  rw [hv, hB u c]

/-- The product with band 2: 4 columns added. -/
theorem pay19_apply (hb : Vec Ideal S1x234x192 .bf16) (hB : Band hb 4 19) (a : Fin 38) (b : Fin 16) (c : Fin 192) :
    k0_pay19 v5 hb (ix3 a b c) = ∑ k : Fin 4, P (8 + a.val) b.val (c.val + 19 + k.val) := by
  pointwise [k0_pay19, k0_pay16]
  have h1 : b.val < 16 := b.isLt
  have h2 : c.val < 192 := c.isLt
  show _ = ∑ k : Fin 4, P (8 + a.val) b.val (c.val + 19 + k.val)
  rw [← band_sum (P (8 + a.val) b.val) (c.val + 19) 4 234 (by omega)]
  refine Finset.sum_congr rfl fun u _ => ?_
  rw [hv, hB u c]

/-- The product with band 3: 25 columns added. -/
theorem pay20_apply (hb : Vec Ideal S1x234x192 .bf16) (hB : Band hb 25 18) (a : Fin 38) (b : Fin 16) (c : Fin 192) :
    k0_pay20 (k0_pay16 v5) hb (ix3 a b c) = ∑ k : Fin 25, P (8 + a.val) b.val (c.val + 18 + k.val) := by
  pointwise [k0_pay20, k0_pay16]
  have h1 : b.val < 16 := b.isLt
  have h2 : c.val < 192 := c.isLt
  show _ = ∑ k : Fin 25, P (8 + a.val) b.val (c.val + 18 + k.val)
  rw [← band_sum (P (8 + a.val) b.val) (c.val + 18) 25 234 (by omega)]
  refine Finset.sum_congr rfl fun u _ => ?_
  rw [hv, hB u c]

/-- The product with band 4: 25 columns added. -/
theorem pay21_apply (hb : Vec Ideal S1x234x192 .bf16) (hB : Band hb 25 0) (a : Fin 38) (b : Fin 16) (c : Fin 192) :
    k0_pay21 (k0_pay16 v5) hb (ix3 a b c) = ∑ k : Fin 25, P (8 + a.val) b.val (c.val + 0 + k.val) := by
  pointwise [k0_pay21, k0_pay16]
  have h1 : b.val < 16 := b.isLt
  have h2 : c.val < 192 := c.isLt
  show _ = ∑ k : Fin 25, P (8 + a.val) b.val (c.val + 0 + k.val)
  rw [← band_sum (P (8 + a.val) b.val) (c.val + 0) 25 234 (by omega)]
  refine Finset.sum_congr rfl fun u _ => ?_
  rw [hv, hB u c]

/-- The product with band 5: 24 columns added. -/
theorem pay22_apply (hb : Vec Ideal S1x234x192 .bf16) (hB : Band hb 24 19) (a : Fin 38) (b : Fin 16) (c : Fin 192) :
    k0_pay22 (k0_pay16 v5) hb (ix3 a b c) = ∑ k : Fin 24, P (8 + a.val) b.val (c.val + 19 + k.val) := by
  pointwise [k0_pay22, k0_pay16]
  have h1 : b.val < 16 := b.isLt
  have h2 : c.val < 192 := c.isLt
  show _ = ∑ k : Fin 24, P (8 + a.val) b.val (c.val + 19 + k.val)
  rw [← band_sum (P (8 + a.val) b.val) (c.val + 19) 24 234 (by omega)]
  refine Finset.sum_congr rfl fun u _ => ?_
  rw [hv, hB u c]

/-- The product with band 6: 24 columns added. -/
theorem pay23_apply (hb : Vec Ideal S1x234x192 .bf16) (hB : Band hb 24 0) (a : Fin 38) (b : Fin 16) (c : Fin 192) :
    k0_pay23 (k0_pay16 v5) hb (ix3 a b c) = ∑ k : Fin 24, P (8 + a.val) b.val (c.val + 0 + k.val) := by
  pointwise [k0_pay23, k0_pay16]
  have h1 : b.val < 16 := b.isLt
  have h2 : c.val < 192 := c.isLt
  show _ = ∑ k : Fin 24, P (8 + a.val) b.val (c.val + 0 + k.val)
  rw [← band_sum (P (8 + a.val) b.val) (c.val + 0) 24 234 (by omega)]
  refine Finset.sum_congr rfl fun u _ => ?_
  rw [hv, hB u c]

/-- Slab 0. -/
theorem slab0_apply (a : Fin 32) (b : Fin 16) (c : Fin 192) :
    (k0_pay24 v5 : FVec Ideal S32x16x192 .bf16) (ix3 a b c) = boxAt P (10, 1, 20, 1) a.val b.val c.val := by
  pointwise [k0_pay24]
  simp only [hv]
  rw [boxAt, boxSum_one]
  congr 1 <;> omega

/-- Slab 1. -/
theorem slab1_apply (a : Fin 32) (b : Fin 16) (c : Fin 192) :
    (k0_pay25 v5 : FVec Ideal S32x16x192 .bf16) (ix3 a b c) = boxAt P (10, 1, 21, 1) a.val b.val c.val := by
  pointwise [k0_pay25]
  simp only [hv]
  rw [boxAt, boxSum_one]
  congr 1 <;> omega

/-- Slab 2. -/
theorem slab2_apply (a : Fin 32) (b : Fin 16) (c : Fin 192) :
    (k0_pay26 v5 : FVec Ideal S32x16x192 .bf16) (ix3 a b c) = boxAt P (10, 1, 22, 1) a.val b.val c.val := by
  pointwise [k0_pay26]
  simp only [hv]
  rw [boxAt, boxSum_one]
  congr 1 <;> omega

/-- Slab 3. -/
theorem slab3_apply (a : Fin 32) (b : Fin 16) (c : Fin 192) :
    (k0_pay28 (k0_pay27 v5) : FVec Ideal S32x16x192 .bf16) (ix3 a b c) = boxAt P (11, 1, 20, 1) a.val b.val c.val := by
  pointwise [k0_pay28, k0_pay27]
  simp only [hv]
  rw [boxAt, boxSum_one]
  congr 1 <;> omega

/-- Slab 4. -/
theorem slab4_apply (a : Fin 32) (b : Fin 16) (c : Fin 192) :
    (k0_pay29 v5 : FVec Ideal S32x16x192 .bf16) (ix3 a b c) = boxAt P (11, 1, 21, 1) a.val b.val c.val := by
  pointwise [k0_pay29]
  simp only [hv]
  rw [boxAt, boxSum_one]
  congr 1 <;> omega

/-- Slab 5. -/
theorem slab5_apply (a : Fin 32) (b : Fin 16) (c : Fin 192) :
    (k0_pay30 v5 : FVec Ideal S32x16x192 .bf16) (ix3 a b c) = boxAt P (11, 1, 22, 1) a.val b.val c.val := by
  pointwise [k0_pay30]
  simp only [hv]
  rw [boxAt, boxSum_one]
  congr 1 <;> omega

/-- Slab 6. -/
theorem slab6_apply (a : Fin 32) (b : Fin 16) (c : Fin 192) :
    (k0_pay31 v5 : FVec Ideal S32x16x192 .bf16) (ix3 a b c) = boxAt P (12, 1, 20, 1) a.val b.val c.val := by
  pointwise [k0_pay31]
  simp only [hv]
  rw [boxAt, boxSum_one]
  congr 1 <;> omega

/-- Slab 7. -/
theorem slab7_apply (a : Fin 32) (b : Fin 16) (c : Fin 192) :
    (k0_pay32 v5 : FVec Ideal S32x16x192 .bf16) (ix3 a b c) = boxAt P (12, 1, 21, 1) a.val b.val c.val := by
  pointwise [k0_pay32]
  simp only [hv]
  rw [boxAt, boxSum_one]
  congr 1 <;> omega

/-- Slab 8. -/
theorem slab8_apply (a : Fin 32) (b : Fin 16) (c : Fin 192) :
    (k0_pay33 v5 : FVec Ideal S32x16x192 .bf16) (ix3 a b c) = boxAt P (12, 1, 22, 1) a.val b.val c.val := by
  pointwise [k0_pay33]
  simp only [hv]
  rw [boxAt, boxSum_one]
  congr 1 <;> omega

/-- Slab 9. -/
theorem slab9_apply (a : Fin 32) (b : Fin 16) (c : Fin 192) :
    (k0_pay35 (k0_pay34 (k0_pay14 v5)) : FVec Ideal S32x16x192 .bf16) (ix3 a b c) = boxAt P (9, 5, 19, 1) a.val b.val c.val := by
  pointwise [k0_pay35, k0_pay34]
  simp only [pay14_apply P v5 hv]
  rw [boxAt, boxSum_col]
  refine Finset.sum_congr rfl fun k _ => ?_
  congr 1 <;> omega

/-- Slab 10. -/
theorem slab10_apply (hb1 : Vec Ideal S1x234x192 .bf16) (hB : Band hb1 4 20) (a : Fin 32) (b : Fin 16) (c : Fin 192) :
    (k0_pay36 (k0_pay18 v5 hb1) : FVec Ideal S32x16x192 .bf16) (ix3 a b c) = boxAt P (9, 1, 20, 4) a.val b.val c.val := by
  pointwise [k0_pay36]
  simp only [pay18_apply P v5 hv hb1 hB]
  rw [boxAt, boxSum_row]
  refine Finset.sum_congr rfl fun k _ => ?_
  congr 1 <;> omega

/-- Slab 11. -/
theorem slab11_apply (a : Fin 32) (b : Fin 16) (c : Fin 192) :
    (k0_pay37 (k0_pay14 v5) : FVec Ideal S32x16x192 .bf16) (ix3 a b c) = boxAt P (9, 5, 20, 1) a.val b.val c.val := by
  pointwise [k0_pay37]
  simp only [pay14_apply P v5 hv]
  rw [boxAt, boxSum_col]
  refine Finset.sum_congr rfl fun k _ => ?_
  congr 1 <;> omega

/-- Slab 12. -/
theorem slab12_apply (a : Fin 32) (b : Fin 16) (c : Fin 192) :
    (k0_pay38 (k0_pay14 v5) : FVec Ideal S32x16x192 .bf16) (ix3 a b c) = boxAt P (9, 5, 21, 1) a.val b.val c.val := by
  pointwise [k0_pay38]
  simp only [pay14_apply P v5 hv]
  rw [boxAt, boxSum_col]
  refine Finset.sum_congr rfl fun k _ => ?_
  congr 1 <;> omega

/-- Slab 13. -/
theorem slab13_apply (a : Fin 32) (b : Fin 16) (c : Fin 192) :
    (k0_pay39 (k0_pay14 v5) : FVec Ideal S32x16x192 .bf16) (ix3 a b c) = boxAt P (9, 5, 22, 1) a.val b.val c.val := by
  pointwise [k0_pay39]
  simp only [pay14_apply P v5 hv]
  rw [boxAt, boxSum_col]
  refine Finset.sum_congr rfl fun k _ => ?_
  congr 1 <;> omega

/-- Slab 14. -/
theorem slab14_apply (a : Fin 32) (b : Fin 16) (c : Fin 192) :
    (k0_pay40 (k0_pay14 v5) : FVec Ideal S32x16x192 .bf16) (ix3 a b c) = boxAt P (9, 5, 23, 1) a.val b.val c.val := by
  pointwise [k0_pay40]
  simp only [pay14_apply P v5 hv]
  rw [boxAt, boxSum_col]
  refine Finset.sum_congr rfl fun k _ => ?_
  congr 1 <;> omega

/-- Slab 15. -/
theorem slab15_apply (hb2 : Vec Ideal S1x234x192 .bf16) (hB : Band hb2 4 19) (a : Fin 32) (b : Fin 16) (c : Fin 192) :
    (k0_pay41 (k0_pay19 v5 hb2) : FVec Ideal S32x16x192 .bf16) (ix3 a b c) = boxAt P (9, 1, 19, 4) a.val b.val c.val := by
  pointwise [k0_pay41]
  simp only [pay19_apply P v5 hv hb2 hB]
  rw [boxAt, boxSum_row]
  refine Finset.sum_congr rfl fun k _ => ?_
  congr 1 <;> omega

/-- Slab 16. -/
theorem slab16_apply (hb0 : Vec Ideal S1x234x192 .bf16) (hB : Band hb0 5 19) (a : Fin 32) (b : Fin 16) (c : Fin 192) :
    (k0_pay43 (k0_pay42 (k0_pay17 v5 hb0)) : FVec Ideal S32x16x192 .bf16) (ix3 a b c) = boxAt P (10, 1, 19, 5) a.val b.val c.val := by
  pointwise [k0_pay43, k0_pay42]
  simp only [pay17_apply P v5 hv hb0 hB]
  rw [boxAt, boxSum_row]
  refine Finset.sum_congr rfl fun k _ => ?_
  congr 1 <;> omega

/-- Slab 17. -/
theorem slab17_apply (hb0 : Vec Ideal S1x234x192 .bf16) (hB : Band hb0 5 19) (a : Fin 32) (b : Fin 16) (c : Fin 192) :
    (k0_pay44 (k0_pay17 v5 hb0) : FVec Ideal S32x16x192 .bf16) (ix3 a b c) = boxAt P (11, 1, 19, 5) a.val b.val c.val := by
  pointwise [k0_pay44]
  simp only [pay17_apply P v5 hv hb0 hB]
  rw [boxAt, boxSum_row]
  refine Finset.sum_congr rfl fun k _ => ?_
  congr 1 <;> omega

/-- Slab 18. -/
theorem slab18_apply (hb0 : Vec Ideal S1x234x192 .bf16) (hB : Band hb0 5 19) (a : Fin 32) (b : Fin 16) (c : Fin 192) :
    (k0_pay45 (k0_pay17 v5 hb0) : FVec Ideal S32x16x192 .bf16) (ix3 a b c) = boxAt P (12, 1, 19, 5) a.val b.val c.val := by
  pointwise [k0_pay45]
  simp only [pay17_apply P v5 hv hb0 hB]
  rw [boxAt, boxSum_row]
  refine Finset.sum_congr rfl fun k _ => ?_
  congr 1 <;> omega

/-- Slab 19. -/
theorem slab19_apply (hb1 : Vec Ideal S1x234x192 .bf16) (hB : Band hb1 4 20) (a : Fin 32) (b : Fin 16) (c : Fin 192) :
    (k0_pay46 (k0_pay18 v5 hb1) : FVec Ideal S32x16x192 .bf16) (ix3 a b c) = boxAt P (13, 1, 20, 4) a.val b.val c.val := by
  pointwise [k0_pay46]
  simp only [pay18_apply P v5 hv hb1 hB]
  rw [boxAt, boxSum_row]
  refine Finset.sum_congr rfl fun k _ => ?_
  congr 1 <;> omega

/-- Slab 20. -/
theorem slab20_apply (hb2 : Vec Ideal S1x234x192 .bf16) (hB : Band hb2 4 19) (a : Fin 32) (b : Fin 16) (c : Fin 192) :
    (k0_pay47 (k0_pay19 v5 hb2) : FVec Ideal S32x16x192 .bf16) (ix3 a b c) = boxAt P (13, 1, 19, 4) a.val b.val c.val := by
  pointwise [k0_pay47]
  simp only [pay19_apply P v5 hv hb2 hB]
  rw [boxAt, boxSum_row]
  refine Finset.sum_congr rfl fun k _ => ?_
  congr 1 <;> omega

/-- Slab 21. -/
theorem slab21_apply (a : Fin 32) (b : Fin 16) (c : Fin 192) :
    (k0_pay48 (k0_pay15 v5) : FVec Ideal S32x16x192 .bf16) (ix3 a b c) = boxAt P (8, 15, 18, 1) a.val b.val c.val := by
  pointwise [k0_pay48]
  simp only [pay15_apply P v5 hv]
  rw [boxAt, boxSum_col]
  refine Finset.sum_congr rfl fun k _ => ?_
  congr 1 <;> omega

/-- Slab 22. -/
theorem slab22_apply (hb5 : Vec Ideal S1x234x192 .bf16) (hB : Band hb5 24 19) (a : Fin 32) (b : Fin 16) (c : Fin 192) :
    (k0_pay49 (k0_pay22 (k0_pay16 v5) hb5) : FVec Ideal S32x16x192 .bf16) (ix3 a b c) = boxAt P (8, 1, 19, 24) a.val b.val c.val := by
  pointwise [k0_pay49]
  simp only [pay22_apply P v5 hv hb5 hB]
  rw [boxAt, boxSum_row]
  refine Finset.sum_congr rfl fun k _ => ?_
  congr 1 <;> omega

/-- Slab 23. -/
theorem slab23_apply (a : Fin 32) (b : Fin 16) (c : Fin 192) :
    (k0_pay51 (k0_pay50 (k0_pay15 v5)) : FVec Ideal S32x16x192 .bf16) (ix3 a b c) = boxAt P (8, 15, 19, 1) a.val b.val c.val := by
  pointwise [k0_pay51, k0_pay50]
  simp only [pay15_apply P v5 hv]
  rw [boxAt, boxSum_col]
  refine Finset.sum_congr rfl fun k _ => ?_
  congr 1 <;> omega

/-- Slab 24. -/
theorem slab24_apply (a : Fin 32) (b : Fin 16) (c : Fin 192) :
    (k0_pay52 (k0_pay15 v5) : FVec Ideal S32x16x192 .bf16) (ix3 a b c) = boxAt P (8, 15, 20, 1) a.val b.val c.val := by
  pointwise [k0_pay52]
  simp only [pay15_apply P v5 hv]
  rw [boxAt, boxSum_col]
  refine Finset.sum_congr rfl fun k _ => ?_
  congr 1 <;> omega

/-- Slab 25. -/
theorem slab25_apply (a : Fin 32) (b : Fin 16) (c : Fin 192) :
    (k0_pay53 (k0_pay15 v5) : FVec Ideal S32x16x192 .bf16) (ix3 a b c) = boxAt P (8, 15, 21, 1) a.val b.val c.val := by
  pointwise [k0_pay53]
  simp only [pay15_apply P v5 hv]
  rw [boxAt, boxSum_col]
  refine Finset.sum_congr rfl fun k _ => ?_
  congr 1 <;> omega

/-- Slab 26. -/
theorem slab26_apply (a : Fin 32) (b : Fin 16) (c : Fin 192) :
    (k0_pay54 (k0_pay15 v5) : FVec Ideal S32x16x192 .bf16) (ix3 a b c) = boxAt P (8, 15, 22, 1) a.val b.val c.val := by
  pointwise [k0_pay54]
  simp only [pay15_apply P v5 hv]
  rw [boxAt, boxSum_col]
  refine Finset.sum_congr rfl fun k _ => ?_
  congr 1 <;> omega

/-- Slab 27. -/
theorem slab27_apply (a : Fin 32) (b : Fin 16) (c : Fin 192) :
    (k0_pay55 (k0_pay15 v5) : FVec Ideal S32x16x192 .bf16) (ix3 a b c) = boxAt P (8, 15, 23, 1) a.val b.val c.val := by
  pointwise [k0_pay55]
  simp only [pay15_apply P v5 hv]
  rw [boxAt, boxSum_col]
  refine Finset.sum_congr rfl fun k _ => ?_
  congr 1 <;> omega

/-- Slab 28. -/
theorem slab28_apply (a : Fin 32) (b : Fin 16) (c : Fin 192) :
    (k0_pay56 (k0_pay15 v5) : FVec Ideal S32x16x192 .bf16) (ix3 a b c) = boxAt P (8, 15, 24, 1) a.val b.val c.val := by
  pointwise [k0_pay56]
  simp only [pay15_apply P v5 hv]
  rw [boxAt, boxSum_col]
  refine Finset.sum_congr rfl fun k _ => ?_
  congr 1 <;> omega

/-- Slab 29. -/
theorem slab29_apply (hb6 : Vec Ideal S1x234x192 .bf16) (hB : Band hb6 24 0) (a : Fin 32) (b : Fin 16) (c : Fin 192) :
    (k0_pay58 (k0_pay57 (k0_pay23 (k0_pay16 v5) hb6)) : FVec Ideal S32x16x192 .bf16) (ix3 a b c) = boxAt P (8, 1, 0, 24) a.val b.val c.val := by
  pointwise [k0_pay58, k0_pay57]
  simp only [pay23_apply P v5 hv hb6 hB]
  rw [boxAt, boxSum_row]
  refine Finset.sum_congr rfl fun k _ => ?_
  congr 1 <;> omega

/-- Slab 30. -/
theorem slab30_apply (hb3 : Vec Ideal S1x234x192 .bf16) (hB : Band hb3 25 18) (a : Fin 32) (b : Fin 16) (c : Fin 192) :
    (k0_pay59 (k0_pay20 (k0_pay16 v5) hb3) : FVec Ideal S32x16x192 .bf16) (ix3 a b c) = boxAt P (9, 1, 18, 25) a.val b.val c.val := by
  pointwise [k0_pay59]
  simp only [pay20_apply P v5 hv hb3 hB]
  rw [boxAt, boxSum_row]
  refine Finset.sum_congr rfl fun k _ => ?_
  congr 1 <;> omega

/-- Slab 31. -/
theorem slab31_apply (hb4 : Vec Ideal S1x234x192 .bf16) (hB : Band hb4 25 0) (a : Fin 32) (b : Fin 16) (c : Fin 192) :
    (k0_pay60 (k0_pay21 (k0_pay16 v5) hb4) : FVec Ideal S32x16x192 .bf16) (ix3 a b c) = boxAt P (9, 1, 0, 25) a.val b.val c.val := by
  pointwise [k0_pay60]
  simp only [pay21_apply P v5 hv hb4 hB]
  rw [boxAt, boxSum_row]
  refine Finset.sum_congr rfl fun k _ => ?_
  congr 1 <;> omega

/-- Slab 32. -/
theorem slab32_apply (hb3 : Vec Ideal S1x234x192 .bf16) (hB : Band hb3 25 18) (a : Fin 32) (b : Fin 16) (c : Fin 192) :
    (k0_pay61 (k0_pay20 (k0_pay16 v5) hb3) : FVec Ideal S32x16x192 .bf16) (ix3 a b c) = boxAt P (10, 1, 18, 25) a.val b.val c.val := by
  pointwise [k0_pay61]
  simp only [pay20_apply P v5 hv hb3 hB]
  rw [boxAt, boxSum_row]
  refine Finset.sum_congr rfl fun k _ => ?_
  congr 1 <;> omega

/-- Slab 33. -/
theorem slab33_apply (hb4 : Vec Ideal S1x234x192 .bf16) (hB : Band hb4 25 0) (a : Fin 32) (b : Fin 16) (c : Fin 192) :
    (k0_pay62 (k0_pay21 (k0_pay16 v5) hb4) : FVec Ideal S32x16x192 .bf16) (ix3 a b c) = boxAt P (10, 1, 0, 25) a.val b.val c.val := by
  pointwise [k0_pay62]
  simp only [pay21_apply P v5 hv hb4 hB]
  rw [boxAt, boxSum_row]
  refine Finset.sum_congr rfl fun k _ => ?_
  congr 1 <;> omega

/-- Slab 34. -/
theorem slab34_apply (hb3 : Vec Ideal S1x234x192 .bf16) (hB : Band hb3 25 18) (a : Fin 32) (b : Fin 16) (c : Fin 192) :
    (k0_pay63 (k0_pay20 (k0_pay16 v5) hb3) : FVec Ideal S32x16x192 .bf16) (ix3 a b c) = boxAt P (11, 1, 18, 25) a.val b.val c.val := by
  pointwise [k0_pay63]
  simp only [pay20_apply P v5 hv hb3 hB]
  rw [boxAt, boxSum_row]
  refine Finset.sum_congr rfl fun k _ => ?_
  congr 1 <;> omega

/-- Slab 35. -/
theorem slab35_apply (hb4 : Vec Ideal S1x234x192 .bf16) (hB : Band hb4 25 0) (a : Fin 32) (b : Fin 16) (c : Fin 192) :
    (k0_pay64 (k0_pay21 (k0_pay16 v5) hb4) : FVec Ideal S32x16x192 .bf16) (ix3 a b c) = boxAt P (11, 1, 0, 25) a.val b.val c.val := by
  pointwise [k0_pay64]
  simp only [pay21_apply P v5 hv hb4 hB]
  rw [boxAt, boxSum_row]
  refine Finset.sum_congr rfl fun k _ => ?_
  congr 1 <;> omega

/-- Slab 36. -/
theorem slab36_apply (hb3 : Vec Ideal S1x234x192 .bf16) (hB : Band hb3 25 18) (a : Fin 32) (b : Fin 16) (c : Fin 192) :
    (k0_pay66 (k0_pay65 (k0_pay20 (k0_pay16 v5) hb3)) : FVec Ideal S32x16x192 .bf16) (ix3 a b c) = boxAt P (12, 1, 18, 25) a.val b.val c.val := by
  pointwise [k0_pay66, k0_pay65]
  simp only [pay20_apply P v5 hv hb3 hB]
  rw [boxAt, boxSum_row]
  refine Finset.sum_congr rfl fun k _ => ?_
  congr 1 <;> omega

/-- Slab 37. -/
theorem slab37_apply (hb4 : Vec Ideal S1x234x192 .bf16) (hB : Band hb4 25 0) (a : Fin 32) (b : Fin 16) (c : Fin 192) :
    (k0_pay67 (k0_pay21 (k0_pay16 v5) hb4) : FVec Ideal S32x16x192 .bf16) (ix3 a b c) = boxAt P (12, 1, 0, 25) a.val b.val c.val := by
  pointwise [k0_pay67]
  simp only [pay21_apply P v5 hv hb4 hB]
  rw [boxAt, boxSum_row]
  refine Finset.sum_congr rfl fun k _ => ?_
  congr 1 <;> omega

/-- Slab 38. -/
theorem slab38_apply (hb3 : Vec Ideal S1x234x192 .bf16) (hB : Band hb3 25 18) (a : Fin 32) (b : Fin 16) (c : Fin 192) :
    (k0_pay68 (k0_pay20 (k0_pay16 v5) hb3) : FVec Ideal S32x16x192 .bf16) (ix3 a b c) = boxAt P (13, 1, 18, 25) a.val b.val c.val := by
  pointwise [k0_pay68]
  simp only [pay20_apply P v5 hv hb3 hB]
  rw [boxAt, boxSum_row]
  refine Finset.sum_congr rfl fun k _ => ?_
  congr 1 <;> omega

/-- Slab 39. -/
theorem slab39_apply (hb4 : Vec Ideal S1x234x192 .bf16) (hB : Band hb4 25 0) (a : Fin 32) (b : Fin 16) (c : Fin 192) :
    (k0_pay69 (k0_pay21 (k0_pay16 v5) hb4) : FVec Ideal S32x16x192 .bf16) (ix3 a b c) = boxAt P (13, 1, 0, 25) a.val b.val c.val := by
  pointwise [k0_pay69]
  simp only [pay21_apply P v5 hv hb4 hB]
  rw [boxAt, boxSum_row]
  refine Finset.sum_congr rfl fun k _ => ?_
  congr 1 <;> omega

/-- Slab 40. -/
theorem slab40_apply (a : Fin 32) (b : Fin 16) (c : Fin 192) :
    (k0_pay70 (k0_pay15 v5) : FVec Ideal S32x16x192 .bf16) (ix3 a b c) = boxAt P (0, 15, 18, 1) a.val b.val c.val := by
  pointwise [k0_pay70]
  simp only [pay15_apply P v5 hv]
  rw [boxAt, boxSum_col]
  refine Finset.sum_congr rfl fun k _ => ?_
  congr 1 <;> omega

/-- Slab 41. -/
theorem slab41_apply (hb5 : Vec Ideal S1x234x192 .bf16) (hB : Band hb5 24 19) (a : Fin 32) (b : Fin 16) (c : Fin 192) :
    (k0_pay71 (k0_pay22 (k0_pay16 v5) hb5) : FVec Ideal S32x16x192 .bf16) (ix3 a b c) = boxAt P (14, 1, 19, 24) a.val b.val c.val := by
  pointwise [k0_pay71]
  simp only [pay22_apply P v5 hv hb5 hB]
  rw [boxAt, boxSum_row]
  refine Finset.sum_congr rfl fun k _ => ?_
  congr 1 <;> omega

/-- Slab 42. -/
theorem slab42_apply (a : Fin 32) (b : Fin 16) (c : Fin 192) :
    (k0_pay72 (k0_pay15 v5) : FVec Ideal S32x16x192 .bf16) (ix3 a b c) = boxAt P (0, 15, 19, 1) a.val b.val c.val := by
  pointwise [k0_pay72]
  simp only [pay15_apply P v5 hv]
  rw [boxAt, boxSum_col]
  refine Finset.sum_congr rfl fun k _ => ?_
  congr 1 <;> omega

/-- Slab 43. -/
theorem slab43_apply (a : Fin 32) (b : Fin 16) (c : Fin 192) :
    (k0_pay74 (k0_pay73 (k0_pay15 v5)) : FVec Ideal S32x16x192 .bf16) (ix3 a b c) = boxAt P (0, 15, 20, 1) a.val b.val c.val := by
  pointwise [k0_pay74, k0_pay73]
  simp only [pay15_apply P v5 hv]
  rw [boxAt, boxSum_col]
  refine Finset.sum_congr rfl fun k _ => ?_
  congr 1 <;> omega

/-- Slab 44. -/
theorem slab44_apply (a : Fin 32) (b : Fin 16) (c : Fin 192) :
    (k0_pay75 (k0_pay15 v5) : FVec Ideal S32x16x192 .bf16) (ix3 a b c) = boxAt P (0, 15, 21, 1) a.val b.val c.val := by
  pointwise [k0_pay75]
  simp only [pay15_apply P v5 hv]
  rw [boxAt, boxSum_col]
  refine Finset.sum_congr rfl fun k _ => ?_
  congr 1 <;> omega

/-- Slab 45. -/
theorem slab45_apply (a : Fin 32) (b : Fin 16) (c : Fin 192) :
    (k0_pay76 (k0_pay15 v5) : FVec Ideal S32x16x192 .bf16) (ix3 a b c) = boxAt P (0, 15, 22, 1) a.val b.val c.val := by
  pointwise [k0_pay76]
  simp only [pay15_apply P v5 hv]
  rw [boxAt, boxSum_col]
  refine Finset.sum_congr rfl fun k _ => ?_
  congr 1 <;> omega

/-- Slab 46. -/
theorem slab46_apply (a : Fin 32) (b : Fin 16) (c : Fin 192) :
    (k0_pay77 (k0_pay15 v5) : FVec Ideal S32x16x192 .bf16) (ix3 a b c) = boxAt P (0, 15, 23, 1) a.val b.val c.val := by
  pointwise [k0_pay77]
  simp only [pay15_apply P v5 hv]
  rw [boxAt, boxSum_col]
  refine Finset.sum_congr rfl fun k _ => ?_
  congr 1 <;> omega

/-- Slab 47. -/
theorem slab47_apply (a : Fin 32) (b : Fin 16) (c : Fin 192) :
    (k0_pay78 (k0_pay15 v5) : FVec Ideal S32x16x192 .bf16) (ix3 a b c) = boxAt P (0, 15, 24, 1) a.val b.val c.val := by
  pointwise [k0_pay78]
  simp only [pay15_apply P v5 hv]
  rw [boxAt, boxSum_col]
  refine Finset.sum_congr rfl fun k _ => ?_
  congr 1 <;> omega

/-- Slab 48. -/
theorem slab48_apply (hb6 : Vec Ideal S1x234x192 .bf16) (hB : Band hb6 24 0) (a : Fin 32) (b : Fin 16) (c : Fin 192) :
    (k0_pay79 (k0_pay23 (k0_pay16 v5) hb6) : FVec Ideal S32x16x192 .bf16) (ix3 a b c) = boxAt P (14, 1, 0, 24) a.val b.val c.val := by
  pointwise [k0_pay79]
  simp only [pay23_apply P v5 hv hb6 hB]
  rw [boxAt, boxSum_row]
  refine Finset.sum_congr rfl fun k _ => ?_
  congr 1 <;> omega

end Fov
-- ==== Proof.Padded.lean ====
module

public import proofs.«01_k».proof.Proof.Block
public import Idealize.ShloMosaic.Lib.Pipeline.ValueKit

/-!
The padded copy of the input block that the kernel keeps between grid points: 11 rows above and below, 21 columns left and
right. The nearest two rows or columns mirror the image, and the rest repeat the third one.
-/

@[expose] public section

set_option maxRecDepth 16384

noncomputable section

namespace Fov

open Cert.KernelIdeal Cert.KernelIdeal.Gen Idealize.ShloMosaic Idealize.ShloMosaic.Pointwise Idealize.SL.Sem

/-- The place of the image that place `u` of a line padded by `n` on both sides shows. -/
def lineOf (n u : ℕ) : ℕ :=
  if u + 2 < n then 3 else if u < n then n - u else if u < n + 192 then u - n
  else if u = n + 192 then 190 else if u = n + 193 then 189 else 188

/-- It is a place of the image. -/
theorem lineOf_lt (n u : ℕ) : lineOf n u < 192 := by
  unfold lineOf
  split_ifs <;> omega

/-- The image row that row `u` of the padded block shows. -/
def rowIx (u : ℕ) : Fin 192 := ⟨lineOf 11 u, lineOf_lt 11 u⟩

/-- The image column that column `v` of the padded block shows. -/
def colIx (v : ℕ) : Fin 192 := ⟨lineOf 21 v, lineOf_lt 21 v⟩

/-- The padded block. -/
def padded (x : Vec Ideal S1x192x16x192 .f32) (u c v : ℕ) : EReal :=
  x (ix4 0 (rowIx u) ⟨c % 16, Nat.mod_lt _ (by decide)⟩ (colIx v))

section
variable (x : Vec Ideal S1x192x16x192 .f32)

/-- The block padded on the left and right. -/
theorem pay3_apply (r : Fin 192) (c : Fin 16) (v : Fin 234) : k0_pay3 x (ix3 r c v) = x (ix4 0 r c (colIx v.val)) := by
  pointwise [k0_pay3]
  have hv := v.isLt
  have key : ∀ n : Fin 192, n.val = lineOf 21 v.val → x (ix4 0 r c n) = x (ix4 0 r c (colIx v.val)) := by
    intro n hn
    congr 2
    exact Fin.ext hn
  split_ifs <;> refine key _ ?_ <;> simp only [lineOf] <;> split_ifs <;> first | omega | rfl | (simp only [Fin.val_natCast]; omega)

/-- A row of the block padded on the left and right, as rows of the padded block show it. -/
theorem pad_row (r : Fin 192) (u : ℕ) (h : r.val = lineOf 11 u) (c : Fin 16) (v : Fin 234) :
    k0_pay3 x (ix3 r c v) = padded x u c.val v.val := by
  rw [pay3_apply, padded]
  congr 2
  · exact Fin.ext h
  · exact Fin.ext (Nat.mod_eq_of_lt c.isLt).symm

/-- The rows the kernel stores into the padded block, the last stored first. -/
def pads (x : Vec Ideal S1x192x16x192 .f32) : List (View.Piece (Elt Ideal) S214x16x234 .f32) :=
  [⟨Rect.unit ![205, 0, 0] S9x16x234.size inb_S214x16x234_S9x16x234_205_0_0, k0_pay11 (k0_pay3 x)⟩,
   ⟨Rect.unit ![204, 0, 0] S1x16x234.size inb_S214x16x234_S1x16x234_204_0_0, k0_pay10 (k0_pay3 x)⟩,
   ⟨Rect.unit ![203, 0, 0] S1x16x234.size inb_S214x16x234_S1x16x234_203_0_0, k0_pay9 (k0_pay8 x)⟩,
   ⟨Rect.unit ![10, 0, 0] S1x16x234.size inb_S214x16x234_S1x16x234_10_0_0, k0_pay7 x⟩,
   ⟨Rect.unit ![9, 0, 0] S1x16x234.size inb_S214x16x234_S1x16x234_9_0_0, k0_pay6 x⟩,
   ⟨Rect.unit ![0, 0, 0] S9x16x234.size inb_S214x16x234_S9x16x234_0_0_0, k0_pay5 x⟩,
   ⟨Rect.unit ![11, 0, 0] S192x16x234.size inb_S214x16x234_S192x16x234_11_0_0, k0_pay4 x⟩]

/-- A stored piece agrees with the padded block on the rectangle it is stored to. -/
def PadAgrees (p : View.Piece (Elt Ideal) S214x16x234 .f32) : Prop :=
  ∀ y : p.1.shape.Idx, p.2 y = padded x (p.1.emb y 0).val (p.1.emb y 1).val (p.1.emb y 2).val

/-- A store of `n` rows from row `u` on agrees with the padded block. -/
theorem pad_of (n u : ℕ) (w : FVec Ideal ⟨3, ![n, 16, 234]⟩ .f32)
    (hval : ∀ (a : Fin n) (c : Fin 16) (v : Fin 234), w (ix3 a c v) = padded x (u + a.val) c.val v.val)
    (inb : ∀ a, (![u, 0, 0] : Fin 3 → ℕ) a + (⟨3, ![n, 16, 234]⟩ : Shape).size a ≤ S214x16x234.size a) :
    PadAgrees x ⟨Rect.unit ![u, 0, 0] (⟨3, ![n, 16, 234]⟩ : Shape).size inb, w⟩ := by
  intro y
  obtain ⟨a, b, c, rfl⟩ : ∃ (a : Fin n) (b : Fin 16) (c : Fin 234), y = ix3 a b c := ⟨y 0, y 1, y 2, (ix3_eta y).symm⟩
  refine (hval a b c).trans ?_
  have e : ∀ i : Fin 3, (((Rect.unit (s := S214x16x234) ![u, 0, 0] (⟨3, ![n, 16, 234]⟩ : Shape).size inb).emb (ix3 a b c)) i).val
      = (![u, 0, 0] : Fin 3 → ℕ) i + ((ix3 a b c : (⟨3, ![n, 16, 234]⟩ : Shape).Idx) i).val :=
    fun i => (Rect.emb_apply _ _ _).trans (by show _ + 1 * _ = _; rw [Nat.one_mul]; rfl)
  have e0 := e 0
  have e1 := e 1
  have e2 := e 2
  show _ = padded x _ _ _
  rw [e0, e1, e2]
  simp

/-- Every stored piece agrees with the padded block. -/
theorem pads_agree : ∀ p ∈ pads x, PadAgrees x p := by
  refine List.forall_mem_cons.2 ⟨pad_of x 9 205 _ (fun a c v => ?_) _, List.forall_mem_cons.2 ⟨pad_of x 1 204 _ (fun a c v => ?_) _,
    List.forall_mem_cons.2 ⟨pad_of x 1 203 _ (fun a c v => ?_) _, List.forall_mem_cons.2 ⟨pad_of x 1 10 _ (fun a c v => ?_) _,
    List.forall_mem_cons.2 ⟨pad_of x 1 9 _ (fun a c v => ?_) _, List.forall_mem_cons.2 ⟨pad_of x 9 0 _ (fun a c v => ?_) _,
    List.forall_mem_cons.2 ⟨pad_of x 192 11 _ (fun a c v => ?_) _, fun _ h => absurd h List.not_mem_nil⟩⟩⟩⟩⟩⟩⟩
  · pointwise [k0_pay11]
    exact pad_row x _ _ (by revert a; decide) c v
  · pointwise [k0_pay10]
    exact pad_row x _ _ (by revert a; decide) c v
  · pointwise [k0_pay9, k0_pay8]
    exact pad_row x _ _ (by revert a; decide) c v
  · pointwise [k0_pay7]
    exact pad_row x _ _ (by revert a; decide) c v
  · pointwise [k0_pay6]
    exact pad_row x _ _ (by revert a; decide) c v
  · pointwise [k0_pay5]
    exact pad_row x _ _ (by revert a; decide) c v
  · pointwise [k0_pay4]
    refine pad_row x _ _ ?_ c v
    have := a.isLt
    simp only [lineOf]
    split_ifs <;> omega

/-- An index whose row is among a piece's rows is in the piece's rectangle. -/
theorem mem_rows (n u : ℕ) (inb : ∀ a, (![u, 0, 0] : Fin 3 → ℕ) a + (⟨3, ![n, 16, 234]⟩ : Shape).size a ≤ S214x16x234.size a)
    (y : S214x16x234.Idx) (h : u ≤ (y 0).val ∧ (y 0).val < u + n) :
    y ∈ (Rect.unit (s := S214x16x234) ![u, 0, 0] (⟨3, ![n, 16, 234]⟩ : Shape).size inb).set := by
  rw [Rect.mem_set_unit]
  intro a
  have h1 : (y 1).val < 16 := (y 1).isLt
  have h2 : (y 2).val < 234 := (y 2).isLt
  fin_cases a
  · exact h
  · exact ⟨Nat.zero_le _, by simpa using h1⟩
  · exact ⟨Nat.zero_le _, by simpa using h2⟩

/-- The pieces cover the padded block. -/
theorem pads_cover (y : S214x16x234.Idx) : ∃ p ∈ pads x, y ∈ p.1.set := by
  have h0 : (y 0).val < 214 := (y 0).isLt
  rcases (by omega : (y 0).val < 9 ∨ (y 0).val = 9 ∨ (y 0).val = 10 ∨ (11 ≤ (y 0).val ∧ (y 0).val < 203) ∨ (y 0).val = 203 ∨
    (y 0).val = 204 ∨ 205 ≤ (y 0).val) with h | h | h | h | h | h | h
  · exact ⟨_, List.mem_of_getElem (l := pads x) (i := 5) (h := by show 5 < 7; decide) rfl, mem_rows 9 0 inb_S214x16x234_S9x16x234_0_0_0 y (by omega)⟩
  · exact ⟨_, List.mem_of_getElem (l := pads x) (i := 4) (h := by show 4 < 7; decide) rfl, mem_rows 1 9 inb_S214x16x234_S1x16x234_9_0_0 y (by omega)⟩
  · exact ⟨_, List.mem_of_getElem (l := pads x) (i := 3) (h := by show 3 < 7; decide) rfl, mem_rows 1 10 inb_S214x16x234_S1x16x234_10_0_0 y (by omega)⟩
  · exact ⟨_, List.mem_of_getElem (l := pads x) (i := 6) (h := by show 6 < 7; decide) rfl, mem_rows 192 11 inb_S214x16x234_S192x16x234_11_0_0 y (by omega)⟩
  · exact ⟨_, List.mem_of_getElem (l := pads x) (i := 2) (h := by show 2 < 7; decide) rfl, mem_rows 1 203 inb_S214x16x234_S1x16x234_203_0_0 y (by omega)⟩
  · exact ⟨_, List.mem_of_getElem (l := pads x) (i := 1) (h := by show 1 < 7; decide) rfl, mem_rows 1 204 inb_S214x16x234_S1x16x234_204_0_0 y (by omega)⟩
  · exact ⟨_, List.mem_of_getElem (l := pads x) (i := 0) (h := by show 0 < 7; decide) rfl, mem_rows 9 205 inb_S214x16x234_S9x16x234_205_0_0 y (by omega)⟩

/-- The pieces together are the padded block. -/
theorem pads_canon (y : S214x16x234.Idx) : View.canon (pads x) y = padded x (y 0).val (y 1).val (y 2).val :=
  View.canon_apply_of_pieces (fun y : S214x16x234.Idx => padded x (y 0).val (y 1).val (y 2).val) _ (pads_agree x) y (pads_cover x y)

end

end Fov
-- ==== Proof.Spots.lean ====
module

public import proofs.«01_k».proof.Proof.Reference
public import proofs.«01_k».proof.Proof.Padded
public import Idealize.ShloMosaic.Lib.WordCmp

/-!
The reference's result as a sum over the positions and their cells: the rows and columns that it looks up are the ones that
the padded block shows, and its tables list the cells of `pos`.
-/

@[expose] public section

set_option maxRecDepth 16384

noncomputable section

namespace Fov

open Cert.ReferenceIdeal Cert.ReferenceIdeal.Gen Cert.ReferenceIdeal.Value Idealize.ShloMosaic Idealize.ShloMosaic.TcCoe Idealize.SL.Sem
open Idealize.ShloMosaic.Pointwise

/-- A looked up row is the one the padded block shows. -/
theorem row_spot : ∀ (r : Fin 23) (y : Fin 192), mirror (min (spot y.val (BitVec.ofInt 32 ((r.val : ℤ) - 11))).toInt.toNat 197) = lineOf 11 (y.val + r.val) := by
  decide +kernel

/-- A looked up column is the one the padded block shows. -/
theorem col_spot : ∀ (r : Fin 43) (y : Fin 192), mirror (min (spot y.val (BitVec.ofInt 32 ((r.val : ℤ) - 21))).toInt.toNat 197) = lineOf 21 (y.val + r.val) := by
  decide +kernel

/-- The reference's tables list the cells. -/
theorem table_words : ∀ (p : Fin 49) (k : Fin 39), k.val < (pos p.val).length →
    lit0 (S49x39.rowMajor (ix2 p k)) = BitVec.ofInt 32 ((((pos p.val).getD k.val (0, 0)).1 : ℤ) - 11) ∧
    lit1 (S49x39.rowMajor (ix2 p k)) = BitVec.ofInt 32 ((((pos p.val).getD k.val (0, 0)).2 : ℤ) - 21) := by
  decide +kernel

/-- The reference's counts. -/
theorem length_words : ∀ p : Fin 49, lit2 (S49.rowMajor (ix1 p)) = BitVec.ofNat 32 (pos p.val).length := by
  decide +kernel

/-- The count of a position and the word that writes it as a float. -/
theorem ref_count_words : ∀ p : Fin 49, (lit3 (S49.rowMajor (ix1 p)), (pos p.val).length) ∈
    [(0x3F800000#32, 1), (0x40A00000#32, 5), (0x41100000#32, 9), (0x41700000#32, 15), (0x41C80000#32, 25), (0x421C0000#32, 39)] := by
  decide +kernel

/-- The count of a position, as a float. -/
theorem ref_count_value (p : Fin 49) : Ideal.ofBits FTy.f32 (lit3 (S49.rowMajor (ix1 p))) = (((pos p.val).length : ℝ) : EReal) := by
  have h := ref_count_words p
  simp only [List.mem_cons, List.not_mem_nil, or_false, Prod.mk.injEq] at h
  rcases h with ⟨h, e⟩ | ⟨h, e⟩ | ⟨h, e⟩ | ⟨h, e⟩ | ⟨h, e⟩ | ⟨h, e⟩ <;> rw [h, e] <;>
    (simp [Ideal.ofBits, Ideal.ieee, -EReal.coe_mul]; try norm_num)

/-- What row `u` and column `v` of the padded block show of channel `c` of image `n`. -/
def shown (X : FVec Ideal S4x16x192x192 .f32) (n : Fin 4) (u c v : ℕ) : EReal :=
  X (ix4 n ⟨c % 16, Nat.mod_lt _ (by decide)⟩ (rowIx u) (colIx v))

/-- The sum over the cells of position `p` placed at a pixel. -/
def cellSum (X : FVec Ideal S4x16x192x192 .f32) (n : Fin 4) (p c y x : ℕ) : EReal :=
  ((pos p).map fun q => shown X n (y + q.1) c (x + q.2)).sum

/-- Equal coordinates, equal entries. -/
theorem entry_congr (X : FVec Ideal S4x16x192x192 .f32) {n : Fin 4} {c c' : Fin 16} {y y' x x' : Fin 192} (hc : c = c') (hy : y = y') (hx : x = x') :
    X (ix4 n c y x) = X (ix4 n c' y' x') := by
  rw [hc, hy, hx]

/-- A looked up cell. -/
theorem cell_apply (X : FVec Ideal S4x16x192x192 .f32) (L0 L1 : IVec S49x39 32) (n : Fin 4) (c : Fin 16) (p : Fin 49) (k : Fin 39) (y x : Fin 192) (q : ℕ × ℕ)
    (hq : q.1 < 23 ∧ q.2 < 43) (h0 : L0 (ix2 p k) = BitVec.ofInt 32 ((q.1 : ℤ) - 11)) (h1 : L1 (ix2 p k) = BitVec.ofInt 32 ((q.2 : ℤ) - 21)) :
    Host.gather gather_S4x16x198x198_S49x39x192x192x2_S4x16x49x39x192x192_01_23_n_n_23_4_41611 (colsBoth (rowsBoth X)) (lookups L0 L1) (ix6 n c p k y x)
      = shown X n (y.val + q.1) c.val (x.val + q.2) := by
  rw [gather_apply, colsBoth_apply, rowsBoth_apply]
  have hr := row_spot ⟨q.1, hq.1⟩ y
  have hc := col_spot ⟨q.2, hq.2⟩ x
  rw [← h0, ← lookups_row L0 L1 p k y x] at hr
  rw [← h1, ← lookups_col L0 L1 p k y x] at hc
  refine entry_congr X ?_ ?_ ?_
  · exact Fin.ext (Nat.mod_eq_of_lt c.isLt).symm
  · refine Fin.ext ?_
    simp only [rowIx]
    exact hr
  · refine Fin.ext ?_
    simp only [colIx]
    exact hc

/-- The result of the stages, for tables that list the cells. -/
theorem outcome_cells (X : FVec Ideal S4x16x192x192 .f32) (L0 L1 : IVec S49x39 32) (C : IVec S49 32) (N : FVec Ideal S49 .f32) (W : FVec Ideal S64x784 .f32) (b : FVec Ideal S64 .f32)
    (hL : ∀ (p : Fin 49) (k : Fin 39), k.val < (pos p.val).length →
      L0 (ix2 p k) = BitVec.ofInt 32 ((((pos p.val).getD k.val (0, 0)).1 : ℤ) - 11) ∧ L1 (ix2 p k) = BitVec.ofInt 32 ((((pos p.val).getD k.val (0, 0)).2 : ℤ) - 21))
    (hC : ∀ p : Fin 49, C (ix1 p) = BitVec.ofNat 32 (pos p.val).length)
    (hN : ∀ p : Fin 49, N (ix1 p) = (((pos p.val).length : ℝ) : EReal))
    (n : Fin 4) (o : Fin 64) (y x : Fin 192) :
    outcome C N (Host.gather gather_S4x16x198x198_S49x39x192x192x2_S4x16x49x39x192x192_01_23_n_n_23_4_41611 (colsBoth (rowsBoth X)) (lookups L0 L1)) W b (ix4 n o y x)
      = (∑ j : Fin 784, W (ix2 o j) * Ideal.div (cellSum X n (j.val % 49) (j.val / 49) y.val x.val) (((pos (j.val % 49)).length : ℝ) : EReal)) + b (ix1 o) := by
  rw [outcome_apply]
  refine congrArg (· + b (ix1 o)) (Finset.sum_congr rfl fun j _ => ?_)
  rw [hN]
  refine congrArg (fun z => W (ix2 o j) * Ideal.div z _) ?_
  have hlen := pos_length ⟨j.val % 49, by omega⟩
  rw [cellSum, sum_getD _ _ 39 hlen.2]
  refine Finset.sum_congr rfl fun k _ => ?_
  have hk := k.isLt
  have hcmp : IntOp.cmpi .slt (BitVec.ofNat 32 k.val) (C (ix1 ⟨j.val % 49, by omega⟩)) = 1#1 ↔ k.val < (pos (j.val % 49)).length := by
    rw [hC, WordCmp.cmpi_slt_ofNat (by omega) (by have := hlen.2; simp only at this ⊢; omega)]
    by_cases h : k.val < (pos (j.val % 49)).length <;> simp [h]
  by_cases h : k.val < (pos (j.val % 49)).length
  · rw [if_pos (hcmp.2 h), if_pos h]
    refine cell_apply X L0 L1 n ⟨j.val / 49, by omega⟩ ⟨j.val % 49, by omega⟩ k y x _ (pos_bound ⟨j.val % 49, by omega⟩ _ ?_) (hL ⟨j.val % 49, by omega⟩ k h).1 (hL ⟨j.val % 49, by omega⟩ k h).2
    simp only [List.getD, List.getElem?_eq_getElem h, Option.getD_some]
    exact List.getElem_mem h
  · rw [if_neg (fun e => h (hcmp.1 e)), if_neg h]

variable (m : (ℓ : Loc nD τ sig) → Buf (Elt Ideal) ℓ)

/-- The reference's argument `x`. -/
def refImage (c : Dev nD) : FVec Ideal S4x16x192x192 .f32 := m ((c.tc : Thread nD τ).loc main_arg0)

/-- The reference's argument `weight`. -/
def refWeight (c : Dev nD) : FVec Ideal S64x784 .f32 := m ((c.tc : Thread nD τ).loc main_arg1)

/-- The reference's argument `bias`. -/
def refBias (c : Dev nD) : FVec Ideal S64 .f32 := m ((c.tc : Thread nD τ).loc main_arg2)

/-- The reference's result at an index. -/
theorem res_cells (c : Dev nD) (n : Fin 4) (o : Fin 64) (y x : Fin 192) : (res_main_v54 m c : FVec Ideal S4x64x192x192 .f32) (ix4 n o y x)
      = (∑ j : Fin 784, refWeight m c (ix2 o j) *
          Ideal.div (cellSum (refImage m c) n (j.val % 49) (j.val / 49) y.val x.val) (((pos (j.val % 49)).length : ℝ) : EReal)) + refBias m c (ix1 o) :=
  (congrFun (res_stages m c) (ix4 n o y x)).trans (outcome_cells _ _ _ _ _ _ _ table_words length_words ref_count_value n o y x)

end Fov
-- ==== Proof.Feature.lean ====
module

public import proofs.«01_k».proof.Proof.Block
public import Idealize.ShloMosaic.Lib.Pipeline.ValueKit

/-!
The feature block read back as a whole, and the block of results: every result is a row of the weights times a column of
the feature block.
-/

@[expose] public section

set_option maxRecDepth 16384

noncomputable section

namespace Fov

open Cert.KernelIdeal Cert.KernelIdeal.Gen Idealize.ShloMosaic Idealize.ShloMosaic.Pointwise Idealize.SL.Sem

/-- The slabs the kernel stores into the feature block, the last stored first. -/
def slabs (v5 : Vec Ideal S54x16x234 .f32) (hb0 hb1 hb2 hb3 hb4 hb5 hb6 : Vec Ideal S1x234x192 .bf16) : List (View.Piece (Elt Ideal) S32x800x192 .bf16) :=
  [⟨Rect.unit ![0, 784, 0] S32x16x192.size inb_S32x800x192_S32x16x192_0_784_0, (k0_pay82 k0_pay80 (FloatOps.ofBits FTy.f32 0#32) k0_pay81 : FVec Ideal S32x16x192 .bf16)⟩,
   ⟨Rect.unit ![0, 768, 0] S32x16x192.size inb_S32x800x192_S32x16x192_0_768_0, k0_pay79 (k0_pay23 (k0_pay16 v5) hb6)⟩,
   ⟨Rect.unit ![0, 752, 0] S32x16x192.size inb_S32x800x192_S32x16x192_0_752_0, k0_pay78 (k0_pay15 v5)⟩,
   ⟨Rect.unit ![0, 736, 0] S32x16x192.size inb_S32x800x192_S32x16x192_0_736_0, k0_pay77 (k0_pay15 v5)⟩,
   ⟨Rect.unit ![0, 720, 0] S32x16x192.size inb_S32x800x192_S32x16x192_0_720_0, k0_pay76 (k0_pay15 v5)⟩,
   ⟨Rect.unit ![0, 704, 0] S32x16x192.size inb_S32x800x192_S32x16x192_0_704_0, k0_pay75 (k0_pay15 v5)⟩,
   ⟨Rect.unit ![0, 688, 0] S32x16x192.size inb_S32x800x192_S32x16x192_0_688_0, k0_pay74 (k0_pay73 (k0_pay15 v5))⟩,
   ⟨Rect.unit ![0, 672, 0] S32x16x192.size inb_S32x800x192_S32x16x192_0_672_0, k0_pay72 (k0_pay15 v5)⟩,
   ⟨Rect.unit ![0, 656, 0] S32x16x192.size inb_S32x800x192_S32x16x192_0_656_0, k0_pay71 (k0_pay22 (k0_pay16 v5) hb5)⟩,
   ⟨Rect.unit ![0, 640, 0] S32x16x192.size inb_S32x800x192_S32x16x192_0_640_0, k0_pay70 (k0_pay15 v5)⟩,
   ⟨Rect.unit ![0, 624, 0] S32x16x192.size inb_S32x800x192_S32x16x192_0_624_0, k0_pay69 (k0_pay21 (k0_pay16 v5) hb4)⟩,
   ⟨Rect.unit ![0, 608, 0] S32x16x192.size inb_S32x800x192_S32x16x192_0_608_0, k0_pay68 (k0_pay20 (k0_pay16 v5) hb3)⟩,
   ⟨Rect.unit ![0, 592, 0] S32x16x192.size inb_S32x800x192_S32x16x192_0_592_0, k0_pay67 (k0_pay21 (k0_pay16 v5) hb4)⟩,
   ⟨Rect.unit ![0, 576, 0] S32x16x192.size inb_S32x800x192_S32x16x192_0_576_0, k0_pay66 (k0_pay65 (k0_pay20 (k0_pay16 v5) hb3))⟩,
   ⟨Rect.unit ![0, 560, 0] S32x16x192.size inb_S32x800x192_S32x16x192_0_560_0, k0_pay64 (k0_pay21 (k0_pay16 v5) hb4)⟩,
   ⟨Rect.unit ![0, 544, 0] S32x16x192.size inb_S32x800x192_S32x16x192_0_544_0, k0_pay63 (k0_pay20 (k0_pay16 v5) hb3)⟩,
   ⟨Rect.unit ![0, 528, 0] S32x16x192.size inb_S32x800x192_S32x16x192_0_528_0, k0_pay62 (k0_pay21 (k0_pay16 v5) hb4)⟩,
   ⟨Rect.unit ![0, 512, 0] S32x16x192.size inb_S32x800x192_S32x16x192_0_512_0, k0_pay61 (k0_pay20 (k0_pay16 v5) hb3)⟩,
   ⟨Rect.unit ![0, 496, 0] S32x16x192.size inb_S32x800x192_S32x16x192_0_496_0, k0_pay60 (k0_pay21 (k0_pay16 v5) hb4)⟩,
   ⟨Rect.unit ![0, 480, 0] S32x16x192.size inb_S32x800x192_S32x16x192_0_480_0, k0_pay59 (k0_pay20 (k0_pay16 v5) hb3)⟩,
   ⟨Rect.unit ![0, 464, 0] S32x16x192.size inb_S32x800x192_S32x16x192_0_464_0, k0_pay58 (k0_pay57 (k0_pay23 (k0_pay16 v5) hb6))⟩,
   ⟨Rect.unit ![0, 448, 0] S32x16x192.size inb_S32x800x192_S32x16x192_0_448_0, k0_pay56 (k0_pay15 v5)⟩,
   ⟨Rect.unit ![0, 432, 0] S32x16x192.size inb_S32x800x192_S32x16x192_0_432_0, k0_pay55 (k0_pay15 v5)⟩,
   ⟨Rect.unit ![0, 416, 0] S32x16x192.size inb_S32x800x192_S32x16x192_0_416_0, k0_pay54 (k0_pay15 v5)⟩,
   ⟨Rect.unit ![0, 400, 0] S32x16x192.size inb_S32x800x192_S32x16x192_0_400_0, k0_pay53 (k0_pay15 v5)⟩,
   ⟨Rect.unit ![0, 384, 0] S32x16x192.size inb_S32x800x192_S32x16x192_0_384_0, k0_pay52 (k0_pay15 v5)⟩,
   ⟨Rect.unit ![0, 368, 0] S32x16x192.size inb_S32x800x192_S32x16x192_0_368_0, k0_pay51 (k0_pay50 (k0_pay15 v5))⟩,
   ⟨Rect.unit ![0, 352, 0] S32x16x192.size inb_S32x800x192_S32x16x192_0_352_0, k0_pay49 (k0_pay22 (k0_pay16 v5) hb5)⟩,
   ⟨Rect.unit ![0, 336, 0] S32x16x192.size inb_S32x800x192_S32x16x192_0_336_0, k0_pay48 (k0_pay15 v5)⟩,
   ⟨Rect.unit ![0, 320, 0] S32x16x192.size inb_S32x800x192_S32x16x192_0_320_0, k0_pay47 (k0_pay19 v5 hb2)⟩,
   ⟨Rect.unit ![0, 304, 0] S32x16x192.size inb_S32x800x192_S32x16x192_0_304_0, k0_pay46 (k0_pay18 v5 hb1)⟩,
   ⟨Rect.unit ![0, 288, 0] S32x16x192.size inb_S32x800x192_S32x16x192_0_288_0, k0_pay45 (k0_pay17 v5 hb0)⟩,
   ⟨Rect.unit ![0, 272, 0] S32x16x192.size inb_S32x800x192_S32x16x192_0_272_0, k0_pay44 (k0_pay17 v5 hb0)⟩,
   ⟨Rect.unit ![0, 256, 0] S32x16x192.size inb_S32x800x192_S32x16x192_0_256_0, k0_pay43 (k0_pay42 (k0_pay17 v5 hb0))⟩,
   ⟨Rect.unit ![0, 240, 0] S32x16x192.size inb_S32x800x192_S32x16x192_0_240_0, k0_pay41 (k0_pay19 v5 hb2)⟩,
   ⟨Rect.unit ![0, 224, 0] S32x16x192.size inb_S32x800x192_S32x16x192_0_224_0, k0_pay40 (k0_pay14 v5)⟩,
   ⟨Rect.unit ![0, 208, 0] S32x16x192.size inb_S32x800x192_S32x16x192_0_208_0, k0_pay39 (k0_pay14 v5)⟩,
   ⟨Rect.unit ![0, 192, 0] S32x16x192.size inb_S32x800x192_S32x16x192_0_192_0, k0_pay38 (k0_pay14 v5)⟩,
   ⟨Rect.unit ![0, 176, 0] S32x16x192.size inb_S32x800x192_S32x16x192_0_176_0, k0_pay37 (k0_pay14 v5)⟩,
   ⟨Rect.unit ![0, 160, 0] S32x16x192.size inb_S32x800x192_S32x16x192_0_160_0, k0_pay36 (k0_pay18 v5 hb1)⟩,
   ⟨Rect.unit ![0, 144, 0] S32x16x192.size inb_S32x800x192_S32x16x192_0_144_0, k0_pay35 (k0_pay34 (k0_pay14 v5))⟩,
   ⟨Rect.unit ![0, 128, 0] S32x16x192.size inb_S32x800x192_S32x16x192_0_128_0, k0_pay33 v5⟩,
   ⟨Rect.unit ![0, 112, 0] S32x16x192.size inb_S32x800x192_S32x16x192_0_112_0, k0_pay32 v5⟩,
   ⟨Rect.unit ![0, 96, 0] S32x16x192.size inb_S32x800x192_S32x16x192_0_96_0, k0_pay31 v5⟩,
   ⟨Rect.unit ![0, 80, 0] S32x16x192.size inb_S32x800x192_S32x16x192_0_80_0, k0_pay30 v5⟩,
   ⟨Rect.unit ![0, 64, 0] S32x16x192.size inb_S32x800x192_S32x16x192_0_64_0, k0_pay29 v5⟩,
   ⟨Rect.unit ![0, 48, 0] S32x16x192.size inb_S32x800x192_S32x16x192_0_48_0, k0_pay28 (k0_pay27 v5)⟩,
   ⟨Rect.unit ![0, 32, 0] S32x16x192.size inb_S32x800x192_S32x16x192_0_32_0, k0_pay26 v5⟩,
   ⟨Rect.unit ![0, 16, 0] S32x16x192.size inb_S32x800x192_S32x16x192_0_16_0, k0_pay25 v5⟩,
   ⟨Rect.unit ![0, 0, 0] S32x16x192.size inb_S32x800x192_S32x16x192_0_0_0, k0_pay24 v5⟩]

/-- Piece `p` of a list of stores agrees with the feature block on the rectangle it is stored to. -/
def Agrees (P : ℕ → ℕ → ℕ → EReal) (p : View.Piece (Elt Ideal) S32x800x192 .bf16) : Prop :=
  ∀ x : p.1.shape.Idx, p.2 x = feat P (p.1.emb x 0).val (p.1.emb x 1).val (p.1.emb x 2).val

/-- A store of the 16 rows of box `m` agrees with the feature block. -/
theorem slab_of (P : ℕ → ℕ → ℕ → EReal) (m : ℕ) (hm : m < 49) (v : FVec Ideal S32x16x192 .bf16)
    (hval : ∀ (a : Fin 32) (b : Fin 16) (c : Fin 192), v (ix3 a b c) = boxAt P (basis m) a.val b.val c.val)
    (inb : ∀ a, (![0, 16 * m, 0] : Fin 3 → ℕ) a + S32x16x192.size a ≤ S32x800x192.size a) :
    Agrees P ⟨Rect.unit ![0, 16 * m, 0] S32x16x192.size inb, v⟩ := by
  intro x
  obtain ⟨a, b, c, rfl⟩ : ∃ (a : Fin 32) (b : Fin 16) (c : Fin 192), x = ix3 a b c := ⟨x 0, x 1, x 2, (ix3_eta x).symm⟩
  refine (hval a b c).trans ?_
  rw [← feat_slab P m a b c hm b.isLt]
  have e : ∀ i : Fin 3, (((Rect.unit (s := S32x800x192) ![0, 16 * m, 0] S32x16x192.size inb).emb (ix3 a b c)) i).val
      = (![0, 16 * m, 0] : Fin 3 → ℕ) i + ((ix3 a b c : S32x16x192.Idx) i).val :=
    fun i => (Rect.emb_apply _ _ _).trans (by show _ + 1 * _ = _; rw [Nat.one_mul]; rfl)
  have e0 := e 0
  have e1 := e 1
  have e2 := e 2
  show feat P a.val (16 * m + b.val) c.val = feat P _ _ _
  rw [e0, e1, e2]
  simp

/-- The store of the last slab agrees with the feature block: ones in its first row, zeros below. -/
theorem ones_slab (P : ℕ → ℕ → ℕ → EReal)
    (inb : ∀ a, (![0, 784, 0] : Fin 3 → ℕ) a + S32x16x192.size a ≤ S32x800x192.size a) :
    Agrees P ⟨Rect.unit ![0, 784, 0] S32x16x192.size inb,
      (k0_pay82 k0_pay80 (FloatOps.ofBits FTy.f32 0#32) k0_pay81 : FVec Ideal S32x16x192 .bf16)⟩ := by
  intro x
  obtain ⟨a, b, c, rfl⟩ : ∃ (a : Fin 32) (b : Fin 16) (c : Fin 192), x = ix3 a b c := ⟨x 0, x 1, x 2, (ix3_eta x).symm⟩
  have hval : (k0_pay82 k0_pay80 (FloatOps.ofBits FTy.f32 0#32) k0_pay81 : FVec Ideal S32x16x192 .bf16) (ix3 a b c)
      = if b.val = 0 then (1 : EReal) else 0 := by
    pointwise [k0_pay82, k0_pay80, k0_pay81]
    have hb : IntOp.cmpi .eq (BitVec.ofNat 32 b.val) 0#32 = if b.val = 0 then 1#1 else 0#1 := by
      revert b
      decide
    rw [hb]
    split <;> rfl
  refine hval.trans ?_
  have e : ∀ i : Fin 3, (((Rect.unit (s := S32x800x192) ![0, 784, 0] S32x16x192.size inb).emb (ix3 a b c)) i).val
      = (![0, 784, 0] : Fin 3 → ℕ) i + ((ix3 a b c : S32x16x192.Idx) i).val :=
    fun i => (Rect.emb_apply _ _ _).trans (by show _ + 1 * _ = _; rw [Nat.one_mul]; rfl)
  have e0 := e 0
  have e1 := e 1
  have e2 := e 2
  show _ = feat P _ _ _
  rw [e0, e1, e2]
  simp [feat]

/-- The slabs cover one another's gaps: an index below the top of a slab is in it, or below it. -/
theorem cover_cons (L : List (View.Piece (Elt Ideal) S32x800x192 .bf16)) (n : ℕ) (v : FVec Ideal S32x16x192 .bf16)
    (inb : ∀ a, (![0, n, 0] : Fin 3 → ℕ) a + S32x16x192.size a ≤ S32x800x192.size a) (y : S32x800x192.Idx)
    (hy : (y 1).val < n + 16) (h : (y 1).val < n → ∃ p ∈ L, y ∈ p.1.set) :
    ∃ p ∈ (⟨Rect.unit ![0, n, 0] S32x16x192.size inb, v⟩ : View.Piece (Elt Ideal) S32x800x192 .bf16) :: L, y ∈ p.1.set := by
  by_cases hn : (y 1).val < n
  · obtain ⟨p, hp, hm⟩ := h hn
    exact ⟨p, List.mem_cons_of_mem _ hp, hm⟩
  · refine ⟨_, List.mem_cons_self, ?_⟩
    rw [Rect.mem_set_unit]
    intro a
    have h0 : (y 0).val < 32 := (y 0).isLt
    have h2 : (y 2).val < 192 := (y 2).isLt
    fin_cases a
    · exact ⟨Nat.zero_le _, by simpa using h0⟩
    · exact ⟨Nat.le_of_not_lt hn, hy⟩
    · exact ⟨Nat.zero_le _, by simpa using h2⟩

section

variable (P : ℕ → ℕ → ℕ → EReal) (v5 : Vec Ideal S54x16x234 .f32)
  (hv : ∀ (a : Fin 54) (b : Fin 16) (c : Fin 234), v5 (ix3 a b c) = P a.val b.val c.val)
  (hb0 hb1 hb2 hb3 hb4 hb5 hb6 : Vec Ideal S1x234x192 .bf16)
  (hB0 : Band hb0 5 19) (hB1 : Band hb1 4 20) (hB2 : Band hb2 4 19) (hB3 : Band hb3 25 18) (hB4 : Band hb4 25 0) (hB5 : Band hb5 24 19) (hB6 : Band hb6 24 0)
include hv hB0 hB1 hB2 hB3 hB4 hB5 hB6

/-- Every slab agrees with the feature block. -/
theorem slabs_agree : ∀ p ∈ slabs v5 hb0 hb1 hb2 hb3 hb4 hb5 hb6, Agrees P p :=
  List.forall_mem_cons.2 ⟨(ones_slab P _) ,
  List.forall_mem_cons.2 ⟨(slab_of P 48 (by decide) _ (slab48_apply P v5 hv hb6 hB6) _) ,
  List.forall_mem_cons.2 ⟨(slab_of P 47 (by decide) _ (slab47_apply P v5 hv) _) ,
  List.forall_mem_cons.2 ⟨(slab_of P 46 (by decide) _ (slab46_apply P v5 hv) _) ,
  List.forall_mem_cons.2 ⟨(slab_of P 45 (by decide) _ (slab45_apply P v5 hv) _) ,
  List.forall_mem_cons.2 ⟨(slab_of P 44 (by decide) _ (slab44_apply P v5 hv) _) ,
  List.forall_mem_cons.2 ⟨(slab_of P 43 (by decide) _ (slab43_apply P v5 hv) _) ,
  List.forall_mem_cons.2 ⟨(slab_of P 42 (by decide) _ (slab42_apply P v5 hv) _) ,
  List.forall_mem_cons.2 ⟨(slab_of P 41 (by decide) _ (slab41_apply P v5 hv hb5 hB5) _) ,
  List.forall_mem_cons.2 ⟨(slab_of P 40 (by decide) _ (slab40_apply P v5 hv) _) ,
  List.forall_mem_cons.2 ⟨(slab_of P 39 (by decide) _ (slab39_apply P v5 hv hb4 hB4) _) ,
  List.forall_mem_cons.2 ⟨(slab_of P 38 (by decide) _ (slab38_apply P v5 hv hb3 hB3) _) ,
  List.forall_mem_cons.2 ⟨(slab_of P 37 (by decide) _ (slab37_apply P v5 hv hb4 hB4) _) ,
  List.forall_mem_cons.2 ⟨(slab_of P 36 (by decide) _ (slab36_apply P v5 hv hb3 hB3) _) ,
  List.forall_mem_cons.2 ⟨(slab_of P 35 (by decide) _ (slab35_apply P v5 hv hb4 hB4) _) ,
  List.forall_mem_cons.2 ⟨(slab_of P 34 (by decide) _ (slab34_apply P v5 hv hb3 hB3) _) ,
  List.forall_mem_cons.2 ⟨(slab_of P 33 (by decide) _ (slab33_apply P v5 hv hb4 hB4) _) ,
  List.forall_mem_cons.2 ⟨(slab_of P 32 (by decide) _ (slab32_apply P v5 hv hb3 hB3) _) ,
  List.forall_mem_cons.2 ⟨(slab_of P 31 (by decide) _ (slab31_apply P v5 hv hb4 hB4) _) ,
  List.forall_mem_cons.2 ⟨(slab_of P 30 (by decide) _ (slab30_apply P v5 hv hb3 hB3) _) ,
  List.forall_mem_cons.2 ⟨(slab_of P 29 (by decide) _ (slab29_apply P v5 hv hb6 hB6) _) ,
  List.forall_mem_cons.2 ⟨(slab_of P 28 (by decide) _ (slab28_apply P v5 hv) _) ,
  List.forall_mem_cons.2 ⟨(slab_of P 27 (by decide) _ (slab27_apply P v5 hv) _) ,
  List.forall_mem_cons.2 ⟨(slab_of P 26 (by decide) _ (slab26_apply P v5 hv) _) ,
  List.forall_mem_cons.2 ⟨(slab_of P 25 (by decide) _ (slab25_apply P v5 hv) _) ,
  List.forall_mem_cons.2 ⟨(slab_of P 24 (by decide) _ (slab24_apply P v5 hv) _) ,
  List.forall_mem_cons.2 ⟨(slab_of P 23 (by decide) _ (slab23_apply P v5 hv) _) ,
  List.forall_mem_cons.2 ⟨(slab_of P 22 (by decide) _ (slab22_apply P v5 hv hb5 hB5) _) ,
  List.forall_mem_cons.2 ⟨(slab_of P 21 (by decide) _ (slab21_apply P v5 hv) _) ,
  List.forall_mem_cons.2 ⟨(slab_of P 20 (by decide) _ (slab20_apply P v5 hv hb2 hB2) _) ,
  List.forall_mem_cons.2 ⟨(slab_of P 19 (by decide) _ (slab19_apply P v5 hv hb1 hB1) _) ,
  List.forall_mem_cons.2 ⟨(slab_of P 18 (by decide) _ (slab18_apply P v5 hv hb0 hB0) _) ,
  List.forall_mem_cons.2 ⟨(slab_of P 17 (by decide) _ (slab17_apply P v5 hv hb0 hB0) _) ,
  List.forall_mem_cons.2 ⟨(slab_of P 16 (by decide) _ (slab16_apply P v5 hv hb0 hB0) _) ,
  List.forall_mem_cons.2 ⟨(slab_of P 15 (by decide) _ (slab15_apply P v5 hv hb2 hB2) _) ,
  List.forall_mem_cons.2 ⟨(slab_of P 14 (by decide) _ (slab14_apply P v5 hv) _) ,
  List.forall_mem_cons.2 ⟨(slab_of P 13 (by decide) _ (slab13_apply P v5 hv) _) ,
  List.forall_mem_cons.2 ⟨(slab_of P 12 (by decide) _ (slab12_apply P v5 hv) _) ,
  List.forall_mem_cons.2 ⟨(slab_of P 11 (by decide) _ (slab11_apply P v5 hv) _) ,
  List.forall_mem_cons.2 ⟨(slab_of P 10 (by decide) _ (slab10_apply P v5 hv hb1 hB1) _) ,
  List.forall_mem_cons.2 ⟨(slab_of P 9 (by decide) _ (slab9_apply P v5 hv) _) ,
  List.forall_mem_cons.2 ⟨(slab_of P 8 (by decide) _ (slab8_apply P v5 hv) _) ,
  List.forall_mem_cons.2 ⟨(slab_of P 7 (by decide) _ (slab7_apply P v5 hv) _) ,
  List.forall_mem_cons.2 ⟨(slab_of P 6 (by decide) _ (slab6_apply P v5 hv) _) ,
  List.forall_mem_cons.2 ⟨(slab_of P 5 (by decide) _ (slab5_apply P v5 hv) _) ,
  List.forall_mem_cons.2 ⟨(slab_of P 4 (by decide) _ (slab4_apply P v5 hv) _) ,
  List.forall_mem_cons.2 ⟨(slab_of P 3 (by decide) _ (slab3_apply P v5 hv) _) ,
  List.forall_mem_cons.2 ⟨(slab_of P 2 (by decide) _ (slab2_apply P v5 hv) _) ,
  List.forall_mem_cons.2 ⟨(slab_of P 1 (by decide) _ (slab1_apply P v5 hv) _) ,
  List.forall_mem_cons.2 ⟨(slab_of P 0 (by decide) _ (slab0_apply P v5 hv) _) ,
  fun _ h => absurd h List.not_mem_nil
  ⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

omit hv hB0 hB1 hB2 hB3 hB4 hB5 hB6 in
/-- The slabs cover the feature block. -/
theorem slabs_cover (y : S32x800x192.Idx) : ∃ p ∈ slabs v5 hb0 hb1 hb2 hb3 hb4 hb5 hb6, y ∈ p.1.set := by
  have h800 : (y 1).val < 784 + 16 := (y 1).isLt
  refine cover_cons _ 784 _ _ y h800 fun h => ?_
  refine cover_cons _ 768 _ _ y h fun h => ?_
  refine cover_cons _ 752 _ _ y h fun h => ?_
  refine cover_cons _ 736 _ _ y h fun h => ?_
  refine cover_cons _ 720 _ _ y h fun h => ?_
  refine cover_cons _ 704 _ _ y h fun h => ?_
  refine cover_cons _ 688 _ _ y h fun h => ?_
  refine cover_cons _ 672 _ _ y h fun h => ?_
  refine cover_cons _ 656 _ _ y h fun h => ?_
  refine cover_cons _ 640 _ _ y h fun h => ?_
  refine cover_cons _ 624 _ _ y h fun h => ?_
  refine cover_cons _ 608 _ _ y h fun h => ?_
  refine cover_cons _ 592 _ _ y h fun h => ?_
  refine cover_cons _ 576 _ _ y h fun h => ?_
  refine cover_cons _ 560 _ _ y h fun h => ?_
  refine cover_cons _ 544 _ _ y h fun h => ?_
  refine cover_cons _ 528 _ _ y h fun h => ?_
  refine cover_cons _ 512 _ _ y h fun h => ?_
  refine cover_cons _ 496 _ _ y h fun h => ?_
  refine cover_cons _ 480 _ _ y h fun h => ?_
  refine cover_cons _ 464 _ _ y h fun h => ?_
  refine cover_cons _ 448 _ _ y h fun h => ?_
  refine cover_cons _ 432 _ _ y h fun h => ?_
  refine cover_cons _ 416 _ _ y h fun h => ?_
  refine cover_cons _ 400 _ _ y h fun h => ?_
  refine cover_cons _ 384 _ _ y h fun h => ?_
  refine cover_cons _ 368 _ _ y h fun h => ?_
  refine cover_cons _ 352 _ _ y h fun h => ?_
  refine cover_cons _ 336 _ _ y h fun h => ?_
  refine cover_cons _ 320 _ _ y h fun h => ?_
  refine cover_cons _ 304 _ _ y h fun h => ?_
  refine cover_cons _ 288 _ _ y h fun h => ?_
  refine cover_cons _ 272 _ _ y h fun h => ?_
  refine cover_cons _ 256 _ _ y h fun h => ?_
  refine cover_cons _ 240 _ _ y h fun h => ?_
  refine cover_cons _ 224 _ _ y h fun h => ?_
  refine cover_cons _ 208 _ _ y h fun h => ?_
  refine cover_cons _ 192 _ _ y h fun h => ?_
  refine cover_cons _ 176 _ _ y h fun h => ?_
  refine cover_cons _ 160 _ _ y h fun h => ?_
  refine cover_cons _ 144 _ _ y h fun h => ?_
  refine cover_cons _ 128 _ _ y h fun h => ?_
  refine cover_cons _ 112 _ _ y h fun h => ?_
  refine cover_cons _ 96 _ _ y h fun h => ?_
  refine cover_cons _ 80 _ _ y h fun h => ?_
  refine cover_cons _ 64 _ _ y h fun h => ?_
  refine cover_cons _ 48 _ _ y h fun h => ?_
  refine cover_cons _ 32 _ _ y h fun h => ?_
  refine cover_cons _ 16 _ _ y h fun h => ?_
  refine cover_cons _ 0 _ _ y h fun h => ?_
  exact absurd h (Nat.not_lt_zero _)

/-- The slabs together are the feature block. -/
theorem slabs_canon (y : S32x800x192.Idx) :
    View.canon (slabs v5 hb0 hb1 hb2 hb3 hb4 hb5 hb6) y = feat P (y 0).val (y 1).val (y 2).val :=
  View.canon_apply_of_pieces (fun y : S32x800x192.Idx => feat P (y 0).val (y 1).val (y 2).val) _
    (slabs_agree P v5 hv hb0 hb1 hb2 hb3 hb4 hb5 hb6 hB0 hB1 hB2 hB3 hB4 hB5 hB6) y
    (slabs_cover v5 hb0 hb1 hb2 hb3 hb4 hb5 hb6 y)

/-- A row of the feature block read back after the stores. -/
theorem row_read {κ : Kind} {sp : Space} {sig : RefSig} (v : View sig κ sp S32x800x192 .bf16) (n : ℕ)
    (inb : ∀ a, (![n, 0, 0] : Fin 3 → ℕ) a + S1x800x192.size a ≤ S32x800x192.size a) (k : Fin 800) (w : Fin 192) :
    (v.readCov (slabs v5 hb0 hb1 hb2 hb3 hb4 hb5 hb6) (Rect.unit (s := S32x800x192) ![n, 0, 0] S1x800x192.size inb).toLoadRect
      : Vec Ideal S1x800x192 .bf16) (ix3 0 k w) = feat P n k.val w.val := by
  rw [View.readCov_eq_canon_ld _ _ _ (slabs_cover v5 hb0 hb1 hb2 hb3 hb4 hb5 hb6)]
  have hn : n < 32 := by
    have := inb 0
    simpa using this
  rw [View.ld_unit_apply_of _ _ _ _ _ (ix3 (⟨n, hn⟩ : Fin 32) k w : S32x800x192.Idx)
    (by intro a; fin_cases a <;> simp)]
  exact slabs_canon P v5 hv hb0 hb1 hb2 hb3 hb4 hb5 hb6 hB0 hB1 hB2 hB3 hB4 hB5 hB6 _

end

end Fov
-- ==== Proof.Result.lean ====
module

public import proofs.«01_k».proof.Proof.Feature

/-!
The block of results of one grid point: the 32 products of the weights with the rows of the feature block, stacked.
-/

@[expose] public section

set_option maxRecDepth 16384

noncomputable section

namespace Fov

open Cert.KernelIdeal Cert.KernelIdeal.Gen Idealize.ShloMosaic Idealize.ShloMosaic.Pointwise

/-- A row of the weights against a column of one row of the feature block. -/
def rowDot (W : Vec Ideal S64x800 .bf16) (f : ℕ → ℕ → EReal) (o : Fin 64) (w : Fin 192) : EReal :=
  ∑ k : Fin 800, W (ix2 o k) * f k.val w.val

section
variable (W : Vec Ideal S64x800 .bf16) (f : ℕ → ℕ → EReal) (g : Vec Ideal S1x800x192 .bf16)
  (hg : ∀ (k : Fin 800) (w : Fin 192), g (ix3 0 k w) = f k.val w.val) (o : Fin 64) (w : Fin 192)
include hg

/-- Product 2. -/
theorem prod2_apply : k0_pay86 W g (ix2 o w) = rowDot W f o w := by
  unfold rowDot
  pointwise [k0_pay86, k0_pay83]
  simp only [hg]

/-- Product 3. -/
theorem prod3_apply : k0_pay87 W g (ix2 o w) = rowDot W f o w := by
  unfold rowDot
  pointwise [k0_pay87, k0_pay83]
  simp only [hg]

/-- Product 4. -/
theorem prod4_apply : k0_pay88 W g (ix2 o w) = rowDot W f o w := by
  unfold rowDot
  pointwise [k0_pay88, k0_pay83]
  simp only [hg]

/-- Product 5. -/
theorem prod5_apply : k0_pay89 W g (ix2 o w) = rowDot W f o w := by
  unfold rowDot
  pointwise [k0_pay89, k0_pay83]
  simp only [hg]

/-- Product 6. -/
theorem prod6_apply : k0_pay90 (k0_pay83 W) g (ix2 o w) = rowDot W f o w := by
  unfold rowDot
  pointwise [k0_pay90, k0_pay83]
  simp only [hg]

/-- Product 7. -/
theorem prod7_apply : k0_pay91 (k0_pay83 W) g (ix2 o w) = rowDot W f o w := by
  unfold rowDot
  pointwise [k0_pay91, k0_pay83]
  simp only [hg]

/-- Product 8. -/
theorem prod8_apply : k0_pay92 (k0_pay83 W) g (ix2 o w) = rowDot W f o w := by
  unfold rowDot
  pointwise [k0_pay92, k0_pay83]
  simp only [hg]

/-- Product 9. -/
theorem prod9_apply : k0_pay93 (k0_pay83 W) g (ix2 o w) = rowDot W f o w := by
  unfold rowDot
  pointwise [k0_pay93, k0_pay83]
  simp only [hg]

/-- Product 10. -/
theorem prod10_apply : k0_pay94 (k0_pay83 W) g (ix2 o w) = rowDot W f o w := by
  unfold rowDot
  pointwise [k0_pay94, k0_pay83]
  simp only [hg]

/-- Product 11. -/
theorem prod11_apply : k0_pay95 (k0_pay83 W) g (ix2 o w) = rowDot W f o w := by
  unfold rowDot
  pointwise [k0_pay95, k0_pay83]
  simp only [hg]

/-- Product 12. -/
theorem prod12_apply : k0_pay96 (k0_pay83 W) g (ix2 o w) = rowDot W f o w := by
  unfold rowDot
  pointwise [k0_pay96, k0_pay83]
  simp only [hg]

/-- Product 13. -/
theorem prod13_apply : k0_pay97 (k0_pay83 W) g (ix2 o w) = rowDot W f o w := by
  unfold rowDot
  pointwise [k0_pay97, k0_pay83]
  simp only [hg]

/-- Product 14. -/
theorem prod14_apply : k0_pay98 (k0_pay83 W) g (ix2 o w) = rowDot W f o w := by
  unfold rowDot
  pointwise [k0_pay98, k0_pay83]
  simp only [hg]

/-- Product 15. -/
theorem prod15_apply : k0_pay99 (k0_pay83 W) g (ix2 o w) = rowDot W f o w := by
  unfold rowDot
  pointwise [k0_pay99, k0_pay83]
  simp only [hg]

/-- Product 16. -/
theorem prod16_apply : k0_pay100 (k0_pay83 W) g (ix2 o w) = rowDot W f o w := by
  unfold rowDot
  pointwise [k0_pay100, k0_pay83]
  simp only [hg]

/-- Product 17. -/
theorem prod17_apply : k0_pay101 (k0_pay83 W) g (ix2 o w) = rowDot W f o w := by
  unfold rowDot
  pointwise [k0_pay101, k0_pay83]
  simp only [hg]

/-- Product 18. -/
theorem prod18_apply : k0_pay102 (k0_pay83 W) g (ix2 o w) = rowDot W f o w := by
  unfold rowDot
  pointwise [k0_pay102, k0_pay83]
  simp only [hg]

/-- Product 19. -/
theorem prod19_apply : k0_pay103 (k0_pay83 W) g (ix2 o w) = rowDot W f o w := by
  unfold rowDot
  pointwise [k0_pay103, k0_pay83]
  simp only [hg]

/-- Product 20. -/
theorem prod20_apply : k0_pay104 (k0_pay83 W) g (ix2 o w) = rowDot W f o w := by
  unfold rowDot
  pointwise [k0_pay104, k0_pay83]
  simp only [hg]

/-- Product 21. -/
theorem prod21_apply : k0_pay105 (k0_pay83 W) g (ix2 o w) = rowDot W f o w := by
  unfold rowDot
  pointwise [k0_pay105, k0_pay83]
  simp only [hg]

/-- Product 22. -/
theorem prod22_apply : k0_pay106 (k0_pay83 W) g (ix2 o w) = rowDot W f o w := by
  unfold rowDot
  pointwise [k0_pay106, k0_pay83]
  simp only [hg]

/-- Product 23. -/
theorem prod23_apply : k0_pay108 (k0_pay83 W) (k0_pay107 g) (ix2 o w) = rowDot W f o w := by
  unfold rowDot
  pointwise [k0_pay108, k0_pay83, k0_pay107]
  simp only [hg]

/-- Product 24. -/
theorem prod24_apply : k0_pay109 (k0_pay83 W) g (ix2 o w) = rowDot W f o w := by
  unfold rowDot
  pointwise [k0_pay109, k0_pay83]
  simp only [hg]

/-- Product 25. -/
theorem prod25_apply : k0_pay110 (k0_pay83 W) g (ix2 o w) = rowDot W f o w := by
  unfold rowDot
  pointwise [k0_pay110, k0_pay83]
  simp only [hg]

/-- Product 26. -/
theorem prod26_apply : k0_pay111 (k0_pay83 W) g (ix2 o w) = rowDot W f o w := by
  unfold rowDot
  pointwise [k0_pay111, k0_pay83]
  simp only [hg]

/-- Product 27. -/
theorem prod27_apply : k0_pay112 (k0_pay83 W) g (ix2 o w) = rowDot W f o w := by
  unfold rowDot
  pointwise [k0_pay112, k0_pay83]
  simp only [hg]

/-- Product 28. -/
theorem prod28_apply : k0_pay113 (k0_pay83 W) g (ix2 o w) = rowDot W f o w := by
  unfold rowDot
  pointwise [k0_pay113, k0_pay83]
  simp only [hg]

/-- Product 29. -/
theorem prod29_apply : k0_pay114 (k0_pay83 W) g (ix2 o w) = rowDot W f o w := by
  unfold rowDot
  pointwise [k0_pay114, k0_pay83]
  simp only [hg]

/-- Product 30. -/
theorem prod30_apply : k0_pay115 (k0_pay83 W) g (ix2 o w) = rowDot W f o w := by
  unfold rowDot
  pointwise [k0_pay115, k0_pay83]
  simp only [hg]

/-- Product 31. -/
theorem prod31_apply : k0_pay116 (k0_pay83 W) g (ix2 o w) = rowDot W f o w := by
  unfold rowDot
  pointwise [k0_pay116, k0_pay83]
  simp only [hg]

/-- Product 0. -/
theorem prod0_apply : k0_pay117 (k0_pay84 W g) (ix3 o 0 w) = rowDot W f o w := by
  unfold rowDot
  pointwise [k0_pay117, k0_pay84, k0_pay83]
  simp only [hg]

/-- Product 1. -/
theorem prod1_apply : k0_pay118 (k0_pay85 W g) (ix3 o 0 w) = rowDot W f o w := by
  unfold rowDot
  pointwise [k0_pay118, k0_pay85, k0_pay83]
  simp only [hg]

end

/-- The stacked products, at a result index. -/
theorem stack_apply (R : ℕ → Fin 64 → Fin 192 → EReal) (a2 a3 a4 a5 a6 a7 a8 a9 a10 a11 a12 a13 a14 a15 a16 a17 a18 a19 a20 a21 a22 a23 a24 a25 a26 a27 a28 a29 a30 a31 : FVec Ideal S64x192 .f32)
    (a0 a1 : FVec Ideal S64x1x192 .f32)
    (h0 : ∀ (o : Fin 64) (w : Fin 192), a0 (ix3 o 0 w) = R 0 o w)
    (h1 : ∀ (o : Fin 64) (w : Fin 192), a1 (ix3 o 0 w) = R 1 o w)
    (h2 : ∀ (o : Fin 64) (w : Fin 192), a2 (ix2 o w) = R 2 o w)
    (h3 : ∀ (o : Fin 64) (w : Fin 192), a3 (ix2 o w) = R 3 o w)
    (h4 : ∀ (o : Fin 64) (w : Fin 192), a4 (ix2 o w) = R 4 o w)
    (h5 : ∀ (o : Fin 64) (w : Fin 192), a5 (ix2 o w) = R 5 o w)
    (h6 : ∀ (o : Fin 64) (w : Fin 192), a6 (ix2 o w) = R 6 o w)
    (h7 : ∀ (o : Fin 64) (w : Fin 192), a7 (ix2 o w) = R 7 o w)
    (h8 : ∀ (o : Fin 64) (w : Fin 192), a8 (ix2 o w) = R 8 o w)
    (h9 : ∀ (o : Fin 64) (w : Fin 192), a9 (ix2 o w) = R 9 o w)
    (h10 : ∀ (o : Fin 64) (w : Fin 192), a10 (ix2 o w) = R 10 o w)
    (h11 : ∀ (o : Fin 64) (w : Fin 192), a11 (ix2 o w) = R 11 o w)
    (h12 : ∀ (o : Fin 64) (w : Fin 192), a12 (ix2 o w) = R 12 o w)
    (h13 : ∀ (o : Fin 64) (w : Fin 192), a13 (ix2 o w) = R 13 o w)
    (h14 : ∀ (o : Fin 64) (w : Fin 192), a14 (ix2 o w) = R 14 o w)
    (h15 : ∀ (o : Fin 64) (w : Fin 192), a15 (ix2 o w) = R 15 o w)
    (h16 : ∀ (o : Fin 64) (w : Fin 192), a16 (ix2 o w) = R 16 o w)
    (h17 : ∀ (o : Fin 64) (w : Fin 192), a17 (ix2 o w) = R 17 o w)
    (h18 : ∀ (o : Fin 64) (w : Fin 192), a18 (ix2 o w) = R 18 o w)
    (h19 : ∀ (o : Fin 64) (w : Fin 192), a19 (ix2 o w) = R 19 o w)
    (h20 : ∀ (o : Fin 64) (w : Fin 192), a20 (ix2 o w) = R 20 o w)
    (h21 : ∀ (o : Fin 64) (w : Fin 192), a21 (ix2 o w) = R 21 o w)
    (h22 : ∀ (o : Fin 64) (w : Fin 192), a22 (ix2 o w) = R 22 o w)
    (h23 : ∀ (o : Fin 64) (w : Fin 192), a23 (ix2 o w) = R 23 o w)
    (h24 : ∀ (o : Fin 64) (w : Fin 192), a24 (ix2 o w) = R 24 o w)
    (h25 : ∀ (o : Fin 64) (w : Fin 192), a25 (ix2 o w) = R 25 o w)
    (h26 : ∀ (o : Fin 64) (w : Fin 192), a26 (ix2 o w) = R 26 o w)
    (h27 : ∀ (o : Fin 64) (w : Fin 192), a27 (ix2 o w) = R 27 o w)
    (h28 : ∀ (o : Fin 64) (w : Fin 192), a28 (ix2 o w) = R 28 o w)
    (h29 : ∀ (o : Fin 64) (w : Fin 192), a29 (ix2 o w) = R 29 o w)
    (h30 : ∀ (o : Fin 64) (w : Fin 192), a30 (ix2 o w) = R 30 o w)
    (h31 : ∀ (o : Fin 64) (w : Fin 192), a31 (ix2 o w) = R 31 o w)
    (o : Fin 64) (h : Fin 32) (w : Fin 192) :
    k0_pay2 (k0_pay1 a2 a3 a4 a5 a6 a7 a8 a9 a10 a11 a12 a13 a14 a15 a16 a17 a18 a19 a20 a21 a22 a23 a24 a25 a26 a27 a28 a29 a30 a31 a0 a1) (ix4 0 o h w) = R h.val o w := by
  pointwise [k0_pay2]
  fin_cases h
  · pointwise [k0_pay1]
    exact h0 o w
  · pointwise [k0_pay1]
    exact h1 o w
  · pointwise [k0_pay1]
    exact h2 o w
  · pointwise [k0_pay1]
    exact h3 o w
  · pointwise [k0_pay1]
    exact h4 o w
  · pointwise [k0_pay1]
    exact h5 o w
  · pointwise [k0_pay1]
    exact h6 o w
  · pointwise [k0_pay1]
    exact h7 o w
  · pointwise [k0_pay1]
    exact h8 o w
  · pointwise [k0_pay1]
    exact h9 o w
  · pointwise [k0_pay1]
    exact h10 o w
  · pointwise [k0_pay1]
    exact h11 o w
  · pointwise [k0_pay1]
    exact h12 o w
  · pointwise [k0_pay1]
    exact h13 o w
  · pointwise [k0_pay1]
    exact h14 o w
  · pointwise [k0_pay1]
    exact h15 o w
  · pointwise [k0_pay1]
    exact h16 o w
  · pointwise [k0_pay1]
    exact h17 o w
  · pointwise [k0_pay1]
    exact h18 o w
  · pointwise [k0_pay1]
    exact h19 o w
  · pointwise [k0_pay1]
    exact h20 o w
  · pointwise [k0_pay1]
    exact h21 o w
  · pointwise [k0_pay1]
    exact h22 o w
  · pointwise [k0_pay1]
    exact h23 o w
  · pointwise [k0_pay1]
    exact h24 o w
  · pointwise [k0_pay1]
    exact h25 o w
  · pointwise [k0_pay1]
    exact h26 o w
  · pointwise [k0_pay1]
    exact h27 o w
  · pointwise [k0_pay1]
    exact h28 o w
  · pointwise [k0_pay1]
    exact h29 o w
  · pointwise [k0_pay1]
    exact h30 o w
  · pointwise [k0_pay1]
    exact h31 o w

end Fov
-- ==== Proof.KernelBlock.lean ====
module

public import proofs.«01_k».proof.Proof.Result
public import proofs.«01_k».proof.Proof.Padded
public import proofs.«01_k».proof.Proof.Gen.KernelIdeal.Value

/-!
What one grid point leaves: the padded block in the scratch that is kept, and the block of results.
-/

@[expose] public section

set_option maxRecDepth 16384

noncomputable section

namespace Fov

open Cert.KernelIdeal Cert.KernelIdeal.Gen Idealize.ShloMosaic Idealize.ShloMosaic.TcCoe Idealize.ShloMosaic.Pointwise Idealize.SL.Sem

/-- The number of columns a band adds. -/
def bandLen (n : ℕ) : ℕ := [5, 4, 4, 25, 25, 24, 24].getD n 0

/-- The first column a band adds, counted from the left end of the padded window. -/
def bandCol (n : ℕ) : ℕ := [19, 20, 19, 18, 0, 19, 0].getD n 0

/-- The seven band matrices. -/
def Bands (x2 : Vec Ideal S7x234x192 .bf16) : Prop :=
  ∀ (n : Fin 7) (u : Fin 234) (w : Fin 192), x2 (ix3 n u w) =
    if w.val + bandCol n.val ≤ u.val ∧ u.val < w.val + bandCol n.val + bandLen n.val then (1 : EReal) else 0

/-- The tile of rows that a grid point reads, out of a padded block. -/
def tileOf (P : ℕ → ℕ → ℕ → EReal) (i : grid0.Coords) (h c w : ℕ) : EReal := P (32 * (i 1).val + h) c w

/-- A read of the tile out of the padded block. -/
theorem tile_read (P : ℕ → ℕ → ℕ → EReal) (i : grid0.Coords) (X : Vec Ideal S214x16x234 .f32)
    (hX : ∀ y : S214x16x234.Idx, X y = P (y 0).val (y 1).val (y 2).val) (a : Fin 54) (b : Fin 16) (c : Fin 234) :
    (View.ld X (Rect.unit (s := S214x16x234) (k0_off1 i) S54x16x234.size (k0_off1_inb i)) : Vec Ideal S54x16x234 .f32) (ix3 a b c)
      = tileOf P i a.val b.val c.val := by
  have hi : (i 1).val < 6 := (i 1).isLt
  rw [View.ld_unit_apply_of _ _ _ _ _ (ix3 (⟨32 * (i 1).val + a.val, by omega⟩ : Fin 214) b c : S214x16x234.Idx)
    (by
      intro d
      refine Eq.trans ?_ (congrArg (· + ((ix3 a b c : S54x16x234.Idx) d).val) (congrFun (k0_off1_eq i) d).symm)
      fin_cases d <;> simp), hX]
  rfl

/-- The first point of a batch leaves the padded block in the scratch. -/
theorem sout_A (c : Dev nD) (i : grid0.Coords) (arg2 : Memref sig .tc .vmem S1x192x16x192 .f32) (harg2 : arg2.IsWhole) (arg3 : Memref sig .tc .vmem S64x800 .bf16) (harg3 : arg3.IsWhole)
    (arg4 : Memref sig .tc .vmem S7x234x192 .bf16) (harg4 : arg4.IsWhole) (arg5 : Memref sig .tc .vmem S1x64x32x192 .f32) (harg5 : arg5.IsWhole)
    (arg6 : Memref sig .tc .vmem S32x800x192 .bf16) (harg6 : arg6.IsWhole) (arg7 : Memref sig .tc .vmem S214x16x234 .f32) (harg7 : arg7.IsWhole)
    (hc0 : cond0_0 i) (x0 : Vec Ideal S1x192x16x192 .f32) (x1 : Vec Ideal S64x800 .bf16) (x2 : Vec Ideal S7x234x192 .bf16) (y : S214x16x234.Idx) :
    sout0_A_1 c i arg2 harg2 arg3 harg3 arg4 harg4 arg5 harg5 arg6 harg6 arg7 harg7 hc0 x0 x1 x2 y = padded x0 (y 0).val (y 1).val (y 2).val := by
  unfold sout0_A_1
  rw [View.read_writes_junk_eq_canon]
  unfold kernelRun0_A
  dsimp only
  sl_unfold_run_names
  have hX : (View.readAt (Elt Ideal) arg2.view (Rect.unit (s := S1x192x16x192) ![0, 0, 0, 0] S1x192x16x192.size inb_S1x192x16x192_S1x192x16x192_0_0_0_0).toLoadRect (harg2.unread x0) : Vec Ideal S1x192x16x192 .f32) = x0 := by
    rw [View.readAt_eq_ld, harg2.read_unread]
    exact View.ld_unit_zero (S := S1x192x16x192) (by funext a; fin_cases a <;> rfl) _ _
  refine Eq.trans ?_ ((pads_canon (View.readAt (Elt Ideal) arg2.view (Rect.unit (s := S1x192x16x192) ![0, 0, 0, 0] S1x192x16x192.size inb_S1x192x16x192_S1x192x16x192_0_0_0_0).toLoadRect (harg2.unread x0)) y).trans (by rw [hX]))
  simp only [pads, k0_pay8, k0_pay7, k0_pay6, k0_pay5, k0_pay4, k0_pay3]

set_option maxHeartbeats 1000000 in
/-- The results of a later point of a batch. -/
theorem out_B (c : Dev nD) (i : grid0.Coords) (arg2 : Memref sig .tc .vmem S1x192x16x192 .f32) (harg2 : arg2.IsWhole) (arg3 : Memref sig .tc .vmem S64x800 .bf16) (harg3 : arg3.IsWhole)
    (arg4 : Memref sig .tc .vmem S7x234x192 .bf16) (harg4 : arg4.IsWhole) (arg5 : Memref sig .tc .vmem S1x64x32x192 .f32) (harg5 : arg5.IsWhole)
    (arg6 : Memref sig .tc .vmem S32x800x192 .bf16) (harg6 : arg6.IsWhole) (arg7 : Memref sig .tc .vmem S214x16x234 .f32) (harg7 : arg7.IsWhole)
    (hc0 : ¬ cond0_0 i) (x0 : Vec Ideal S1x192x16x192 .f32) (x1 : Vec Ideal S64x800 .bf16) (x2 : Vec Ideal S7x234x192 .bf16) (hx2 : Bands x2) (xs : Vec Ideal S214x16x234 .f32) (P : ℕ → ℕ → ℕ → EReal)
    (hxs : ∀ y : S214x16x234.Idx, xs y = P (y 0).val (y 1).val (y 2).val)
    (o : Fin 64) (h : Fin 32) (w : Fin 192) :
    out0_B_3 c i arg2 harg2 arg3 harg3 arg4 harg4 arg5 harg5 arg6 harg6 arg7 harg7 hc0 x0 x1 x2 xs (ix4 0 o h w) = rowDot x1 (feat (tileOf P i) h.val) o w := by
  have hB : ∀ (n : ℕ) (hn : n < 7) (inb : ∀ a, (![n, 0, 0] : Fin 3 → ℕ) a + S1x234x192.size a ≤ S7x234x192.size a),
      Band (View.readAt (Elt Ideal) arg4.view (Rect.unit (s := S7x234x192) ![n, 0, 0] S1x234x192.size inb).toLoadRect (harg4.unread x2)) (bandLen n) (bandCol n) := by
    intro n hn inb u w
    rw [View.readAt_eq_ld, harg4.read_unread, View.ld_unit_apply_of _ _ _ _ _ (ix3 (⟨n, hn⟩ : Fin 7) u w : S7x234x192.Idx) (by intro a; fin_cases a <;> simp)]
    exact hx2 ⟨n, hn⟩ u w
  have hB0 := hB 0 (by decide) inb_S7x234x192_S1x234x192_0_0_0
  have hB1 := hB 1 (by decide) inb_S7x234x192_S1x234x192_1_0_0
  have hB2 := hB 2 (by decide) inb_S7x234x192_S1x234x192_2_0_0
  have hB3 := hB 3 (by decide) inb_S7x234x192_S1x234x192_3_0_0
  have hB4 := hB 4 (by decide) inb_S7x234x192_S1x234x192_4_0_0
  have hB5 := hB 5 (by decide) inb_S7x234x192_S1x234x192_5_0_0
  have hB6 := hB 6 (by decide) inb_S7x234x192_S1x234x192_6_0_0
  have hW : (View.readAt (Elt Ideal) arg3.view (Rect.unit (s := S64x800) ![0, 0] S64x800.size inb_S64x800_S64x800_0_0).toLoadRect (harg3.unread x1) : Vec Ideal S64x800 .bf16) = x1 := by
    rw [View.readAt_eq_ld, harg3.read_unread]
    exact View.ld_unit_zero (S := S64x800) (by funext a; fin_cases a <;> rfl) _ _
  have hv : ∀ (a : Fin 54) (b : Fin 16) (c : Fin 234),
      (View.readAt (Elt Ideal) arg7.view (Rect.unit (s := S214x16x234) (k0_off1 i) S54x16x234.size (k0_off1_inb i)).toLoadRect (harg7.unread xs) : Vec Ideal S54x16x234 .f32) (ix3 a b c) = tileOf P i a.val b.val c.val := by
    intro a b c
    rw [View.readAt_eq_ld, harg7.read_unread]
    exact tile_read P i _ hxs a b c
  unfold out0_B_3
  rw [View.read_writes_junk_eq_canon]
  unfold kernelRun0_B
  dsimp only
  sl_unfold_run_names
  rw [View.canon_unit_zero (S := S1x64x32x192) (by funext a; fin_cases a <;> rfl)]
  have main := stack_apply (fun h o w => rowDot (View.readAt (Elt Ideal) arg3.view (Rect.unit (s := S64x800) ![0, 0] S64x800.size inb_S64x800_S64x800_0_0).toLoadRect (harg3.unread x1) : Vec Ideal S64x800 .bf16) (feat (tileOf P i) h) o w) _ _ _ _ _ _ _ _ _ _ _ _ _ _ _ _ _ _ _ _ _ _ _ _ _ _ _ _ _ _ _ _
    (fun o w => prod0_apply _ (feat (tileOf P i) 0) _ (fun k w => row_read (tileOf P i) _ hv _ _ _ _ _ _ _ hB0 hB1 hB2 hB3 hB4 hB5 hB6 arg6.view 0 inb_S32x800x192_S1x800x192_0_0_0 k w) o w)
    (fun o w => prod1_apply _ (feat (tileOf P i) 1) _ (fun k w => row_read (tileOf P i) _ hv _ _ _ _ _ _ _ hB0 hB1 hB2 hB3 hB4 hB5 hB6 arg6.view 1 inb_S32x800x192_S1x800x192_1_0_0 k w) o w)
    (fun o w => prod2_apply _ (feat (tileOf P i) 2) _ (fun k w => row_read (tileOf P i) _ hv _ _ _ _ _ _ _ hB0 hB1 hB2 hB3 hB4 hB5 hB6 arg6.view 2 inb_S32x800x192_S1x800x192_2_0_0 k w) o w)
    (fun o w => prod3_apply _ (feat (tileOf P i) 3) _ (fun k w => row_read (tileOf P i) _ hv _ _ _ _ _ _ _ hB0 hB1 hB2 hB3 hB4 hB5 hB6 arg6.view 3 inb_S32x800x192_S1x800x192_3_0_0 k w) o w)
    (fun o w => prod4_apply _ (feat (tileOf P i) 4) _ (fun k w => row_read (tileOf P i) _ hv _ _ _ _ _ _ _ hB0 hB1 hB2 hB3 hB4 hB5 hB6 arg6.view 4 inb_S32x800x192_S1x800x192_4_0_0 k w) o w)
    (fun o w => prod5_apply _ (feat (tileOf P i) 5) _ (fun k w => row_read (tileOf P i) _ hv _ _ _ _ _ _ _ hB0 hB1 hB2 hB3 hB4 hB5 hB6 arg6.view 5 inb_S32x800x192_S1x800x192_5_0_0 k w) o w)
    (fun o w => prod6_apply _ (feat (tileOf P i) 6) _ (fun k w => row_read (tileOf P i) _ hv _ _ _ _ _ _ _ hB0 hB1 hB2 hB3 hB4 hB5 hB6 arg6.view 6 inb_S32x800x192_S1x800x192_6_0_0 k w) o w)
    (fun o w => prod7_apply _ (feat (tileOf P i) 7) _ (fun k w => row_read (tileOf P i) _ hv _ _ _ _ _ _ _ hB0 hB1 hB2 hB3 hB4 hB5 hB6 arg6.view 7 inb_S32x800x192_S1x800x192_7_0_0 k w) o w)
    (fun o w => prod8_apply _ (feat (tileOf P i) 8) _ (fun k w => row_read (tileOf P i) _ hv _ _ _ _ _ _ _ hB0 hB1 hB2 hB3 hB4 hB5 hB6 arg6.view 8 inb_S32x800x192_S1x800x192_8_0_0 k w) o w)
    (fun o w => prod9_apply _ (feat (tileOf P i) 9) _ (fun k w => row_read (tileOf P i) _ hv _ _ _ _ _ _ _ hB0 hB1 hB2 hB3 hB4 hB5 hB6 arg6.view 9 inb_S32x800x192_S1x800x192_9_0_0 k w) o w)
    (fun o w => prod10_apply _ (feat (tileOf P i) 10) _ (fun k w => row_read (tileOf P i) _ hv _ _ _ _ _ _ _ hB0 hB1 hB2 hB3 hB4 hB5 hB6 arg6.view 10 inb_S32x800x192_S1x800x192_10_0_0 k w) o w)
    (fun o w => prod11_apply _ (feat (tileOf P i) 11) _ (fun k w => row_read (tileOf P i) _ hv _ _ _ _ _ _ _ hB0 hB1 hB2 hB3 hB4 hB5 hB6 arg6.view 11 inb_S32x800x192_S1x800x192_11_0_0 k w) o w)
    (fun o w => prod12_apply _ (feat (tileOf P i) 12) _ (fun k w => row_read (tileOf P i) _ hv _ _ _ _ _ _ _ hB0 hB1 hB2 hB3 hB4 hB5 hB6 arg6.view 12 inb_S32x800x192_S1x800x192_12_0_0 k w) o w)
    (fun o w => prod13_apply _ (feat (tileOf P i) 13) _ (fun k w => row_read (tileOf P i) _ hv _ _ _ _ _ _ _ hB0 hB1 hB2 hB3 hB4 hB5 hB6 arg6.view 13 inb_S32x800x192_S1x800x192_13_0_0 k w) o w)
    (fun o w => prod14_apply _ (feat (tileOf P i) 14) _ (fun k w => row_read (tileOf P i) _ hv _ _ _ _ _ _ _ hB0 hB1 hB2 hB3 hB4 hB5 hB6 arg6.view 14 inb_S32x800x192_S1x800x192_14_0_0 k w) o w)
    (fun o w => prod15_apply _ (feat (tileOf P i) 15) _ (fun k w => row_read (tileOf P i) _ hv _ _ _ _ _ _ _ hB0 hB1 hB2 hB3 hB4 hB5 hB6 arg6.view 15 inb_S32x800x192_S1x800x192_15_0_0 k w) o w)
    (fun o w => prod16_apply _ (feat (tileOf P i) 16) _ (fun k w => row_read (tileOf P i) _ hv _ _ _ _ _ _ _ hB0 hB1 hB2 hB3 hB4 hB5 hB6 arg6.view 16 inb_S32x800x192_S1x800x192_16_0_0 k w) o w)
    (fun o w => prod17_apply _ (feat (tileOf P i) 17) _ (fun k w => row_read (tileOf P i) _ hv _ _ _ _ _ _ _ hB0 hB1 hB2 hB3 hB4 hB5 hB6 arg6.view 17 inb_S32x800x192_S1x800x192_17_0_0 k w) o w)
    (fun o w => prod18_apply _ (feat (tileOf P i) 18) _ (fun k w => row_read (tileOf P i) _ hv _ _ _ _ _ _ _ hB0 hB1 hB2 hB3 hB4 hB5 hB6 arg6.view 18 inb_S32x800x192_S1x800x192_18_0_0 k w) o w)
    (fun o w => prod19_apply _ (feat (tileOf P i) 19) _ (fun k w => row_read (tileOf P i) _ hv _ _ _ _ _ _ _ hB0 hB1 hB2 hB3 hB4 hB5 hB6 arg6.view 19 inb_S32x800x192_S1x800x192_19_0_0 k w) o w)
    (fun o w => prod20_apply _ (feat (tileOf P i) 20) _ (fun k w => row_read (tileOf P i) _ hv _ _ _ _ _ _ _ hB0 hB1 hB2 hB3 hB4 hB5 hB6 arg6.view 20 inb_S32x800x192_S1x800x192_20_0_0 k w) o w)
    (fun o w => prod21_apply _ (feat (tileOf P i) 21) _ (fun k w => row_read (tileOf P i) _ hv _ _ _ _ _ _ _ hB0 hB1 hB2 hB3 hB4 hB5 hB6 arg6.view 21 inb_S32x800x192_S1x800x192_21_0_0 k w) o w)
    (fun o w => prod22_apply _ (feat (tileOf P i) 22) _ (fun k w => row_read (tileOf P i) _ hv _ _ _ _ _ _ _ hB0 hB1 hB2 hB3 hB4 hB5 hB6 arg6.view 22 inb_S32x800x192_S1x800x192_22_0_0 k w) o w)
    (fun o w => prod23_apply _ (feat (tileOf P i) 23) _ (fun k w => row_read (tileOf P i) _ hv _ _ _ _ _ _ _ hB0 hB1 hB2 hB3 hB4 hB5 hB6 arg6.view 23 inb_S32x800x192_S1x800x192_23_0_0 k w) o w)
    (fun o w => prod24_apply _ (feat (tileOf P i) 24) _ (fun k w => row_read (tileOf P i) _ hv _ _ _ _ _ _ _ hB0 hB1 hB2 hB3 hB4 hB5 hB6 arg6.view 24 inb_S32x800x192_S1x800x192_24_0_0 k w) o w)
    (fun o w => prod25_apply _ (feat (tileOf P i) 25) _ (fun k w => row_read (tileOf P i) _ hv _ _ _ _ _ _ _ hB0 hB1 hB2 hB3 hB4 hB5 hB6 arg6.view 25 inb_S32x800x192_S1x800x192_25_0_0 k w) o w)
    (fun o w => prod26_apply _ (feat (tileOf P i) 26) _ (fun k w => row_read (tileOf P i) _ hv _ _ _ _ _ _ _ hB0 hB1 hB2 hB3 hB4 hB5 hB6 arg6.view 26 inb_S32x800x192_S1x800x192_26_0_0 k w) o w)
    (fun o w => prod27_apply _ (feat (tileOf P i) 27) _ (fun k w => row_read (tileOf P i) _ hv _ _ _ _ _ _ _ hB0 hB1 hB2 hB3 hB4 hB5 hB6 arg6.view 27 inb_S32x800x192_S1x800x192_27_0_0 k w) o w)
    (fun o w => prod28_apply _ (feat (tileOf P i) 28) _ (fun k w => row_read (tileOf P i) _ hv _ _ _ _ _ _ _ hB0 hB1 hB2 hB3 hB4 hB5 hB6 arg6.view 28 inb_S32x800x192_S1x800x192_28_0_0 k w) o w)
    (fun o w => prod29_apply _ (feat (tileOf P i) 29) _ (fun k w => row_read (tileOf P i) _ hv _ _ _ _ _ _ _ hB0 hB1 hB2 hB3 hB4 hB5 hB6 arg6.view 29 inb_S32x800x192_S1x800x192_29_0_0 k w) o w)
    (fun o w => prod30_apply _ (feat (tileOf P i) 30) _ (fun k w => row_read (tileOf P i) _ hv _ _ _ _ _ _ _ hB0 hB1 hB2 hB3 hB4 hB5 hB6 arg6.view 30 inb_S32x800x192_S1x800x192_30_0_0 k w) o w)
    (fun o w => prod31_apply _ (feat (tileOf P i) 31) _ (fun k w => row_read (tileOf P i) _ hv _ _ _ _ _ _ _ hB0 hB1 hB2 hB3 hB4 hB5 hB6 arg6.view 31 inb_S32x800x192_S1x800x192_31_0_0 k w) o w)
    o h w
  refine main.trans ?_
  dsimp only
  rw [hW]

end Fov
-- ==== Proof.FirstBlock.lean ====
module

public import proofs.«01_k».proof.Proof.KernelBlock

/-!
The block of results that the first grid point of a batch leaves.
-/

@[expose] public section

set_option maxRecDepth 16384

noncomputable section

namespace Fov

open Cert.KernelIdeal Cert.KernelIdeal.Gen Idealize.ShloMosaic Idealize.ShloMosaic.TcCoe Idealize.ShloMosaic.Pointwise Idealize.SL.Sem

set_option maxHeartbeats 1000000 in
/-- The results of the first point of a batch. -/
theorem out_A (c : Dev nD) (i : grid0.Coords) (arg2 : Memref sig .tc .vmem S1x192x16x192 .f32) (harg2 : arg2.IsWhole) (arg3 : Memref sig .tc .vmem S64x800 .bf16) (harg3 : arg3.IsWhole)
    (arg4 : Memref sig .tc .vmem S7x234x192 .bf16) (harg4 : arg4.IsWhole) (arg5 : Memref sig .tc .vmem S1x64x32x192 .f32) (harg5 : arg5.IsWhole)
    (arg6 : Memref sig .tc .vmem S32x800x192 .bf16) (harg6 : arg6.IsWhole) (arg7 : Memref sig .tc .vmem S214x16x234 .f32) (harg7 : arg7.IsWhole)
    (hc0 : cond0_0 i) (x0 : Vec Ideal S1x192x16x192 .f32) (x1 : Vec Ideal S64x800 .bf16) (x2 : Vec Ideal S7x234x192 .bf16) (hx2 : Bands x2)
    (o : Fin 64) (h : Fin 32) (w : Fin 192) :
    out0_A_3 c i arg2 harg2 arg3 harg3 arg4 harg4 arg5 harg5 arg6 harg6 arg7 harg7 hc0 x0 x1 x2 (ix4 0 o h w) = rowDot x1 (feat (tileOf (padded x0) i) h.val) o w := by
  have hB : ∀ (n : ℕ) (hn : n < 7) (inb : ∀ a, (![n, 0, 0] : Fin 3 → ℕ) a + S1x234x192.size a ≤ S7x234x192.size a),
      Band (View.readAt (Elt Ideal) arg4.view (Rect.unit (s := S7x234x192) ![n, 0, 0] S1x234x192.size inb).toLoadRect (harg4.unread x2)) (bandLen n) (bandCol n) := by
    intro n hn inb u w
    rw [View.readAt_eq_ld, harg4.read_unread, View.ld_unit_apply_of _ _ _ _ _ (ix3 (⟨n, hn⟩ : Fin 7) u w : S7x234x192.Idx) (by intro a; fin_cases a <;> simp)]
    exact hx2 ⟨n, hn⟩ u w
  have hB0 := hB 0 (by decide) inb_S7x234x192_S1x234x192_0_0_0
  have hB1 := hB 1 (by decide) inb_S7x234x192_S1x234x192_1_0_0
  have hB2 := hB 2 (by decide) inb_S7x234x192_S1x234x192_2_0_0
  have hB3 := hB 3 (by decide) inb_S7x234x192_S1x234x192_3_0_0
  have hB4 := hB 4 (by decide) inb_S7x234x192_S1x234x192_4_0_0
  have hB5 := hB 5 (by decide) inb_S7x234x192_S1x234x192_5_0_0
  have hB6 := hB 6 (by decide) inb_S7x234x192_S1x234x192_6_0_0
  have hW : (View.readAt (Elt Ideal) arg3.view (Rect.unit (s := S64x800) ![0, 0] S64x800.size inb_S64x800_S64x800_0_0).toLoadRect (harg3.unread x1) : Vec Ideal S64x800 .bf16) = x1 := by
    rw [View.readAt_eq_ld, harg3.read_unread]
    exact View.ld_unit_zero (S := S64x800) (by funext a; fin_cases a <;> rfl) _ _
  have hX : (View.readAt (Elt Ideal) arg2.view (Rect.unit (s := S1x192x16x192) ![0, 0, 0, 0] S1x192x16x192.size inb_S1x192x16x192_S1x192x16x192_0_0_0_0).toLoadRect (harg2.unread x0) : Vec Ideal S1x192x16x192 .f32) = x0 := by
    rw [View.readAt_eq_ld, harg2.read_unread]
    exact View.ld_unit_zero (S := S1x192x16x192) (by funext a; fin_cases a <;> rfl) _ _
  have hv : ∀ (a : Fin 54) (b : Fin 16) (c : Fin 234),
      (arg7.view.readCov (pads (View.readAt (Elt Ideal) arg2.view (Rect.unit (s := S1x192x16x192) ![0, 0, 0, 0] S1x192x16x192.size inb_S1x192x16x192_S1x192x16x192_0_0_0_0).toLoadRect (harg2.unread x0)))
        (Rect.unit (s := S214x16x234) (k0_off1 i) S54x16x234.size (k0_off1_inb i)).toLoadRect : Vec Ideal S54x16x234 .f32) (ix3 a b c) = tileOf (padded x0) i a.val b.val c.val := by
    intro a b c
    rw [hX, View.readCov_eq_canon_ld _ _ _ (pads_cover x0)]
    exact tile_read (padded x0) i _ (pads_canon x0) a b c
  simp only [pads, k0_pay8, k0_pay7, k0_pay6, k0_pay5, k0_pay4, k0_pay3] at hv
  unfold out0_A_3
  rw [View.read_writes_junk_eq_canon]
  unfold kernelRun0_A
  dsimp only
  sl_unfold_run_names
  rw [View.canon_unit_zero (S := S1x64x32x192) (by funext a; fin_cases a <;> rfl)]
  have main := stack_apply (fun h o w => rowDot (View.readAt (Elt Ideal) arg3.view (Rect.unit (s := S64x800) ![0, 0] S64x800.size inb_S64x800_S64x800_0_0).toLoadRect (harg3.unread x1) : Vec Ideal S64x800 .bf16) (feat (tileOf (padded x0) i) h) o w) _ _ _ _ _ _ _ _ _ _ _ _ _ _ _ _ _ _ _ _ _ _ _ _ _ _ _ _ _ _ _ _
    (fun o w => prod0_apply _ (feat (tileOf (padded x0) i) 0) _ (fun k w => row_read (tileOf (padded x0) i) _ hv _ _ _ _ _ _ _ hB0 hB1 hB2 hB3 hB4 hB5 hB6 arg6.view 0 inb_S32x800x192_S1x800x192_0_0_0 k w) o w)
    (fun o w => prod1_apply _ (feat (tileOf (padded x0) i) 1) _ (fun k w => row_read (tileOf (padded x0) i) _ hv _ _ _ _ _ _ _ hB0 hB1 hB2 hB3 hB4 hB5 hB6 arg6.view 1 inb_S32x800x192_S1x800x192_1_0_0 k w) o w)
    (fun o w => prod2_apply _ (feat (tileOf (padded x0) i) 2) _ (fun k w => row_read (tileOf (padded x0) i) _ hv _ _ _ _ _ _ _ hB0 hB1 hB2 hB3 hB4 hB5 hB6 arg6.view 2 inb_S32x800x192_S1x800x192_2_0_0 k w) o w)
    (fun o w => prod3_apply _ (feat (tileOf (padded x0) i) 3) _ (fun k w => row_read (tileOf (padded x0) i) _ hv _ _ _ _ _ _ _ hB0 hB1 hB2 hB3 hB4 hB5 hB6 arg6.view 3 inb_S32x800x192_S1x800x192_3_0_0 k w) o w)
    (fun o w => prod4_apply _ (feat (tileOf (padded x0) i) 4) _ (fun k w => row_read (tileOf (padded x0) i) _ hv _ _ _ _ _ _ _ hB0 hB1 hB2 hB3 hB4 hB5 hB6 arg6.view 4 inb_S32x800x192_S1x800x192_4_0_0 k w) o w)
    (fun o w => prod5_apply _ (feat (tileOf (padded x0) i) 5) _ (fun k w => row_read (tileOf (padded x0) i) _ hv _ _ _ _ _ _ _ hB0 hB1 hB2 hB3 hB4 hB5 hB6 arg6.view 5 inb_S32x800x192_S1x800x192_5_0_0 k w) o w)
    (fun o w => prod6_apply _ (feat (tileOf (padded x0) i) 6) _ (fun k w => row_read (tileOf (padded x0) i) _ hv _ _ _ _ _ _ _ hB0 hB1 hB2 hB3 hB4 hB5 hB6 arg6.view 6 inb_S32x800x192_S1x800x192_6_0_0 k w) o w)
    (fun o w => prod7_apply _ (feat (tileOf (padded x0) i) 7) _ (fun k w => row_read (tileOf (padded x0) i) _ hv _ _ _ _ _ _ _ hB0 hB1 hB2 hB3 hB4 hB5 hB6 arg6.view 7 inb_S32x800x192_S1x800x192_7_0_0 k w) o w)
    (fun o w => prod8_apply _ (feat (tileOf (padded x0) i) 8) _ (fun k w => row_read (tileOf (padded x0) i) _ hv _ _ _ _ _ _ _ hB0 hB1 hB2 hB3 hB4 hB5 hB6 arg6.view 8 inb_S32x800x192_S1x800x192_8_0_0 k w) o w)
    (fun o w => prod9_apply _ (feat (tileOf (padded x0) i) 9) _ (fun k w => row_read (tileOf (padded x0) i) _ hv _ _ _ _ _ _ _ hB0 hB1 hB2 hB3 hB4 hB5 hB6 arg6.view 9 inb_S32x800x192_S1x800x192_9_0_0 k w) o w)
    (fun o w => prod10_apply _ (feat (tileOf (padded x0) i) 10) _ (fun k w => row_read (tileOf (padded x0) i) _ hv _ _ _ _ _ _ _ hB0 hB1 hB2 hB3 hB4 hB5 hB6 arg6.view 10 inb_S32x800x192_S1x800x192_10_0_0 k w) o w)
    (fun o w => prod11_apply _ (feat (tileOf (padded x0) i) 11) _ (fun k w => row_read (tileOf (padded x0) i) _ hv _ _ _ _ _ _ _ hB0 hB1 hB2 hB3 hB4 hB5 hB6 arg6.view 11 inb_S32x800x192_S1x800x192_11_0_0 k w) o w)
    (fun o w => prod12_apply _ (feat (tileOf (padded x0) i) 12) _ (fun k w => row_read (tileOf (padded x0) i) _ hv _ _ _ _ _ _ _ hB0 hB1 hB2 hB3 hB4 hB5 hB6 arg6.view 12 inb_S32x800x192_S1x800x192_12_0_0 k w) o w)
    (fun o w => prod13_apply _ (feat (tileOf (padded x0) i) 13) _ (fun k w => row_read (tileOf (padded x0) i) _ hv _ _ _ _ _ _ _ hB0 hB1 hB2 hB3 hB4 hB5 hB6 arg6.view 13 inb_S32x800x192_S1x800x192_13_0_0 k w) o w)
    (fun o w => prod14_apply _ (feat (tileOf (padded x0) i) 14) _ (fun k w => row_read (tileOf (padded x0) i) _ hv _ _ _ _ _ _ _ hB0 hB1 hB2 hB3 hB4 hB5 hB6 arg6.view 14 inb_S32x800x192_S1x800x192_14_0_0 k w) o w)
    (fun o w => prod15_apply _ (feat (tileOf (padded x0) i) 15) _ (fun k w => row_read (tileOf (padded x0) i) _ hv _ _ _ _ _ _ _ hB0 hB1 hB2 hB3 hB4 hB5 hB6 arg6.view 15 inb_S32x800x192_S1x800x192_15_0_0 k w) o w)
    (fun o w => prod16_apply _ (feat (tileOf (padded x0) i) 16) _ (fun k w => row_read (tileOf (padded x0) i) _ hv _ _ _ _ _ _ _ hB0 hB1 hB2 hB3 hB4 hB5 hB6 arg6.view 16 inb_S32x800x192_S1x800x192_16_0_0 k w) o w)
    (fun o w => prod17_apply _ (feat (tileOf (padded x0) i) 17) _ (fun k w => row_read (tileOf (padded x0) i) _ hv _ _ _ _ _ _ _ hB0 hB1 hB2 hB3 hB4 hB5 hB6 arg6.view 17 inb_S32x800x192_S1x800x192_17_0_0 k w) o w)
    (fun o w => prod18_apply _ (feat (tileOf (padded x0) i) 18) _ (fun k w => row_read (tileOf (padded x0) i) _ hv _ _ _ _ _ _ _ hB0 hB1 hB2 hB3 hB4 hB5 hB6 arg6.view 18 inb_S32x800x192_S1x800x192_18_0_0 k w) o w)
    (fun o w => prod19_apply _ (feat (tileOf (padded x0) i) 19) _ (fun k w => row_read (tileOf (padded x0) i) _ hv _ _ _ _ _ _ _ hB0 hB1 hB2 hB3 hB4 hB5 hB6 arg6.view 19 inb_S32x800x192_S1x800x192_19_0_0 k w) o w)
    (fun o w => prod20_apply _ (feat (tileOf (padded x0) i) 20) _ (fun k w => row_read (tileOf (padded x0) i) _ hv _ _ _ _ _ _ _ hB0 hB1 hB2 hB3 hB4 hB5 hB6 arg6.view 20 inb_S32x800x192_S1x800x192_20_0_0 k w) o w)
    (fun o w => prod21_apply _ (feat (tileOf (padded x0) i) 21) _ (fun k w => row_read (tileOf (padded x0) i) _ hv _ _ _ _ _ _ _ hB0 hB1 hB2 hB3 hB4 hB5 hB6 arg6.view 21 inb_S32x800x192_S1x800x192_21_0_0 k w) o w)
    (fun o w => prod22_apply _ (feat (tileOf (padded x0) i) 22) _ (fun k w => row_read (tileOf (padded x0) i) _ hv _ _ _ _ _ _ _ hB0 hB1 hB2 hB3 hB4 hB5 hB6 arg6.view 22 inb_S32x800x192_S1x800x192_22_0_0 k w) o w)
    (fun o w => prod23_apply _ (feat (tileOf (padded x0) i) 23) _ (fun k w => row_read (tileOf (padded x0) i) _ hv _ _ _ _ _ _ _ hB0 hB1 hB2 hB3 hB4 hB5 hB6 arg6.view 23 inb_S32x800x192_S1x800x192_23_0_0 k w) o w)
    (fun o w => prod24_apply _ (feat (tileOf (padded x0) i) 24) _ (fun k w => row_read (tileOf (padded x0) i) _ hv _ _ _ _ _ _ _ hB0 hB1 hB2 hB3 hB4 hB5 hB6 arg6.view 24 inb_S32x800x192_S1x800x192_24_0_0 k w) o w)
    (fun o w => prod25_apply _ (feat (tileOf (padded x0) i) 25) _ (fun k w => row_read (tileOf (padded x0) i) _ hv _ _ _ _ _ _ _ hB0 hB1 hB2 hB3 hB4 hB5 hB6 arg6.view 25 inb_S32x800x192_S1x800x192_25_0_0 k w) o w)
    (fun o w => prod26_apply _ (feat (tileOf (padded x0) i) 26) _ (fun k w => row_read (tileOf (padded x0) i) _ hv _ _ _ _ _ _ _ hB0 hB1 hB2 hB3 hB4 hB5 hB6 arg6.view 26 inb_S32x800x192_S1x800x192_26_0_0 k w) o w)
    (fun o w => prod27_apply _ (feat (tileOf (padded x0) i) 27) _ (fun k w => row_read (tileOf (padded x0) i) _ hv _ _ _ _ _ _ _ hB0 hB1 hB2 hB3 hB4 hB5 hB6 arg6.view 27 inb_S32x800x192_S1x800x192_27_0_0 k w) o w)
    (fun o w => prod28_apply _ (feat (tileOf (padded x0) i) 28) _ (fun k w => row_read (tileOf (padded x0) i) _ hv _ _ _ _ _ _ _ hB0 hB1 hB2 hB3 hB4 hB5 hB6 arg6.view 28 inb_S32x800x192_S1x800x192_28_0_0 k w) o w)
    (fun o w => prod29_apply _ (feat (tileOf (padded x0) i) 29) _ (fun k w => row_read (tileOf (padded x0) i) _ hv _ _ _ _ _ _ _ hB0 hB1 hB2 hB3 hB4 hB5 hB6 arg6.view 29 inb_S32x800x192_S1x800x192_29_0_0 k w) o w)
    (fun o w => prod30_apply _ (feat (tileOf (padded x0) i) 30) _ (fun k w => row_read (tileOf (padded x0) i) _ hv _ _ _ _ _ _ _ hB0 hB1 hB2 hB3 hB4 hB5 hB6 arg6.view 30 inb_S32x800x192_S1x800x192_30_0_0 k w) o w)
    (fun o w => prod31_apply _ (feat (tileOf (padded x0) i) 31) _ (fun k w => row_read (tileOf (padded x0) i) _ hv _ _ _ _ _ _ _ hB0 hB1 hB2 hB3 hB4 hB5 hB6 arg6.view 31 inb_S32x800x192_S1x800x192_31_0_0 k w) o w)
    o h w
  refine main.trans ?_
  dsimp only
  rw [hW]

end Fov
-- ==== Proof.Counts.lean ====
module

public import proofs.«01_k».proof.Proof.FirstBlock
public import proofs.«01_k».proof.Proof.Gen.KernelIdeal.Value
public import Idealize.ShloMosaic.Lib.WordCmp

/-!
The counts of the positions and the shares of the boxes in them, as the program writes them.
-/

@[expose] public section

set_option maxRecDepth 16384

noncomputable section

namespace Fov

open Cert.KernelIdeal Cert.KernelIdeal.Gen Idealize.ShloMosaic Idealize.ShloMosaic.TcCoe Idealize.SL.Sem
open Idealize.ShloMosaic.Pointwise

/-- The count of a position and the word that writes it as a float. -/
theorem count_words : ∀ p : Fin 49, (lit1 (S49.rowMajor (ix1 p)), (pos p.val).length) ∈
    [(0x3F800000#32, 1), (0x40A00000#32, 5), (0x41100000#32, 9), (0x41700000#32, 15), (0x41C80000#32, 25), (0x421C0000#32, 39)] := by
  decide +kernel

/-- The count of a position, as a float. -/
theorem count_value (p : Fin 49) : Ideal.ofBits FTy.f32 (lit1 (S49.rowMajor (ix1 p))) = (((pos p.val).length : ℝ) : EReal) := by
  have h := count_words p
  simp only [List.mem_cons, List.not_mem_nil, or_false, Prod.mk.injEq] at h
  rcases h with ⟨h, e⟩ | ⟨h, e⟩ | ⟨h, e⟩ | ⟨h, e⟩ | ⟨h, e⟩ | ⟨h, e⟩ <;> rw [h, e] <;>
    (simp [Ideal.ofBits, Ideal.ieee, -EReal.coe_mul]; try norm_num)

/-- Which boxes make up a position, as the program lists it. -/
theorem sel_words : ∀ p q : Fin 49, lit0 (S49x49.rowMajor (ix2 p q)) = if sel p.val q.val then 1#1 else 0#1 := by
  decide +kernel

/-- The share of box `q` in position `p`. -/
def share (p q : ℕ) : ℝ := if sel p q then ((pos p).length : ℝ)⁻¹ else 0

/-- The share, as the program computes it. -/
theorem share_value (p q : Fin 49) :
    Ideal.div (FloatOps.uitofp FTy.f32 (lit0 (S49x49.rowMajor (ix2 p q))) : Ideal .f32) (Ideal.ofBits FTy.f32 (lit1 (S49.rowMajor (ix1 p))))
      = ((share p.val q.val : ℝ) : EReal) := by
  have hl : ((pos p.val).length : ℝ) ≠ 0 := by
    have := (pos_length p).1
    positivity
  rw [count_value, Ideal.div, if_neg (by exact_mod_cast hl), sel_words, ← EReal.coe_inv]
  unfold share
  split
  · rw [show (FloatOps.uitofp FTy.f32 (1#1) : Ideal .f32) = ((1 : ℝ) : EReal) by simp [FloatOps.uitofp], ← EReal.coe_mul, one_mul]
  · rw [show (FloatOps.uitofp FTy.f32 (0#1) : Ideal .f32) = ((0 : ℝ) : EReal) by simp [FloatOps.uitofp], ← EReal.coe_mul, zero_mul]

end Fov
-- ==== Proof.Host.lean ====
module

public import proofs.«01_k».proof.Proof.FirstBlock
public import proofs.«01_k».proof.Proof.Gen.KernelIdeal.Value
public import proofs.«01_k».proof.Proof.Counts
public import Idealize.ShloMosaic.Lib.WordCmp

/-!
What the three arrays hold that the launch reads: the image with rows before channels, the weights gathered by box, and the
seven bands.
-/

@[expose] public section

set_option maxRecDepth 16384

noncomputable section

namespace Fov

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The image the program is called with. -/
def imageOf (c : Dev nD) : Vec Ideal S4x16x192x192 .f32 := m ((c : Thread nD τ).loc main_arg0)

/-- The weights the program is called with. -/
def weightOf (c : Dev nD) : Vec Ideal S64x784 .f32 := m ((c : Thread nD τ).loc main_arg1)

/-- The bias the program is called with. -/
def biasOf (c : Dev nD) : Vec Ideal S64 .f32 := m ((c : Thread nD τ).loc main_arg2)

/-- The first array is the image with rows before channels. -/
theorem V_image (c : Dev nD) (b : Fin 4) (y : Fin 192) (k : Fin 16) (x : Fin 192) :
    (V m c main_call0_v0 : Vec Ideal S4x192x16x192 .f32) (ix4 b y k x) = imageOf m c (ix4 b k y x) := by
  unfold imageOf
  unfold_abbrev_sides
  after_results
  simp only [StableHlo.TRef.toBuf, StableHlo.TRef.ofBuf, cast_eq]
  pointwise

/-- Where a band starts, as the program computes it. -/
theorem band_first : ∀ (n : Fin 7) (w : Fin 192), IntOp.addi (IntOp.addi (BitVec.ofNat 32 w.val) 21#32) (lit3 (S7.rowMajor (ix1 n)))
    = BitVec.ofNat 32 (w.val + bandCol n.val) := by decide +kernel

/-- Where a band ends, as the program computes it. -/
theorem band_last : ∀ (n : Fin 7) (w : Fin 192), IntOp.addi (BitVec.ofNat 32 (w.val + bandCol n.val)) (lit2 (S7.rowMajor (ix1 n)))
    = BitVec.ofNat 32 (w.val + bandCol n.val + bandLen n.val) := by decide +kernel

/-- The bands are short. -/
theorem band_small : ∀ n : Fin 7, bandCol n.val ≤ 20 ∧ bandLen n.val ≤ 25 := by decide

/-- The third array holds the seven bands. -/
theorem V_bands (c : Dev nD) : Bands (V m c main_call0_v32 : Vec Ideal S7x234x192 .bf16) := by
  intro n u w
  unfold_abbrev_sides
  after_results
  simp only [StableHlo.TRef.toBuf, StableHlo.TRef.ofBuf, cast_eq]
  pointwise
  have hs := band_small n
  have hu := u.isLt
  have hw := w.isLt
  rw [band_first n w, band_last n w, WordCmp.cmpi_sge_ofNat (by omega) (by omega), WordCmp.cmpi_slt_ofNat (by omega) (by omega)]
  by_cases h1 : w.val + bandCol n.val ≤ u.val <;> by_cases h2 : u.val < w.val + bandCol n.val + bandLen n.val <;>
    simp [h1, h2, Scalar.select, IntOp.andi]

/-- The weights gathered by box, from the list of boxes `S`, the counts `N`, the weights `W` and the bias `b`. -/
def gathered (S : IVec S49x49 1) (N : FVec Ideal S49 .f32) (W : FVec Ideal S64x784 .f32) (b : FVec Ideal S64 .f32) : FVec Ideal S64x800 .bf16 :=
  truncf .bf16 (concatenate S64x800 1 [⟨S64x785, concatenate S64x785 1 [⟨S64x784, shapeCast S64x784 (Host.reduceAdd (mulf
      (broadcastInDim S64x49x16x49 ![0, 1, 2, 3] bcast_S64x1x16x49_S64x49x16x49_0_1_2_3 (shapeCast S64x1x16x49 W shapeCasts_S64x784_S64x1x16x49))
      (broadcastInDim S64x49x16x49 ![0, 1, 2, 3] bcast_S1x49x1x49_S64x49x16x49_0_1_2_3 (broadcastInDim S1x49x1x49 ![1, 3] bcast_S49x49_S1x49x1x49_1_3
        (transpose S49x49 [1, 0] (Host.divf (uitofp .f32 S) (broadcastInDim S49x49 ![0, 1] bcast_S49x1_S49x49_0_1 (broadcastInDim S49x1 ![0] bcast_S49_S49x1_0 N))) transposes_S49x49_S49x49_1_0))))
      (constant S_ .f32 0x00000000#32) reducesTo_S64x49x16x49_S64x49x16_d3 h_S_) shapeCasts_S64x49x16_S64x784⟩,
    ⟨S64x1, broadcastInDim S64x1 ![0] bcast_S64_S64x1_0 b⟩] concatenates_S64x784_S64x1_S64x785_d1⟩,
    ⟨S64x15, broadcastInDim S64x15 ![] bcast_S_S64x15 (constant S_ .f32 0x00000000#32)⟩] concatenates_S64x785_S64x15_S64x800_d1) bitsLt_bf16_f32

/-- Column 16 m + c of the gathered weights sums the weights of channel c over the positions, each times its share of box m;
column 784 is the bias, and the columns after it are 0. -/
theorem gathered_apply (S : IVec S49x49 1) (N : FVec Ideal S49 .f32) (W : FVec Ideal S64x784 .f32) (b : FVec Ideal S64 .f32)
    (h : ∀ p q : Fin 49, Ideal.div (FloatOps.uitofp FTy.f32 (S (ix2 p q)) : Ideal .f32) (N (ix1 p)) = ((share p.val q.val : ℝ) : EReal))
    (o : Fin 64) (k : Fin 800) : gathered S N W b (ix2 o k) =
    if h : k.val < 784 then ∑ p : Fin 49, W (ix2 o ⟨k.val % 16 * 49 + p.val, by omega⟩) * ((share p.val (k.val / 16) : ℝ) : EReal)
    else if k.val = 784 then b (ix1 o) else (0 : EReal) := by
  unfold gathered
  pointwise
  split_ifs <;> first | omega | rfl | skip
  exact Finset.sum_congr rfl fun p _ => congrArg _ (h p ⟨k.val / 16, by omega⟩)

/-- The second array holds the gathered weights. -/
theorem V_weights (c : Dev nD) : (V m c main_call0_v17 : Vec Ideal S64x800 .bf16) =
    gathered (fun i : S49x49.Idx => lit0 (S49x49.rowMajor i)) (fun i : S49.Idx => FloatOps.ofBits (F := Ideal) .f32 (lit1 (S49.rowMajor i))) (weightOf m c) (biasOf m c) := by
  unfold weightOf biasOf gathered
  unfold_abbrev_sides
  after_results
  simp only [StableHlo.TRef.toBuf, StableHlo.TRef.ofBuf, cast_eq]
  rfl

/-- The second array at an index. -/
theorem V_weights_apply (c : Dev nD) (o : Fin 64) (k : Fin 800) : (V m c main_call0_v17 : Vec Ideal S64x800 .bf16) (ix2 o k) =
    if h : k.val < 784 then ∑ p : Fin 49, weightOf m c (ix2 o ⟨k.val % 16 * 49 + p.val, by omega⟩) * ((share p.val (k.val / 16) : ℝ) : EReal)
    else if k.val = 784 then biasOf m c (ix1 o) else (0 : EReal) :=
  (congrFun (V_weights m c) (ix2 o k)).trans (gathered_apply _ _ _ _ share_value o k)

end Fov
-- ==== Proof.Points.lean ====
module

public import proofs.«01_k».proof.Proof.Spots
public import proofs.«01_k».proof.Proof.Host
public import proofs.«01_k».proof.Proof.FirstBlock
public import proofs.«01_k».proof.Proof.Gen.KernelIdeal.Value

/-!
The launch, point by point: the scratch keeps the padded image of the point's batch entry, and every point leaves its rows of the
result.
-/

@[expose] public section

set_option maxRecDepth 16384

noncomputable section

namespace Fov

open Cert.KernelIdeal Cert.KernelIdeal.Gen Cert.KernelIdeal.Value Idealize.ShloMosaic Idealize.ShloMosaic.TcCoe Idealize.SL.Sem
open Idealize.ShloMosaic.Pointwise

variable (m : (ℓ : Loc nD τ sig) → Buf (Elt Ideal) ℓ)

/-- Where the input windows of a point lie, and the point's row tile. -/
theorem window_facts : ∀ t : Fin grid0.N,
    (win0_0.index t 0 = t.val / 6 ∧ win0_0.index t 1 = 0 ∧ win0_0.index t 2 = 0 ∧ win0_0.index t 3 = 0)
    ∧ (win0_1.index t 0 = 0 ∧ win0_1.index t 1 = 0)
    ∧ (win0_2.index t 0 = 0 ∧ win0_2.index t 1 = 0 ∧ win0_2.index t 2 = 0)
    ∧ (grid0.coords t 1).val = t.val % 6 := by
  decide +kernel

/-- The batch entry of a point. -/
def entryOf (n : ℕ) (hn : n < cfg0.N) : Fin 4 := ⟨n / 6, by have := lt_of_lt_of_eq hn (show cfg0.N = 24 from N_0); omega⟩

/-- The image window of a point holds the image of its batch entry. -/
theorem iblk_image (c : Dev nD) (t : Fin cfg0.N) (y : Fin 192) (k : Fin 16) (x : Fin 192) :
    (iblk m c 0 t : Vec Ideal S1x192x16x192 .f32) (ix4 0 y k x) = imageOf m c (ix4 (entryOf t.val t.isLt) k y x) := by
  refine Eq.trans ?_ (V_image m c (entryOf t.val t.isLt) y k x)
  unfold iblk
  rw [View.read_apply]
  show V m c main_call0_v0 _ = V m c main_call0_v0 _
  congr 1
  funext a
  apply Fin.ext
  have hi := (window_facts t).1
  match a with
  | ⟨0, _⟩ => show win0_0.index t 0 * 1 + 1 * 0 = t.val / 6; rw [hi.1]; omega
  | ⟨1, _⟩ => show win0_0.index t 1 * 192 + 1 * y.val = y.val; rw [hi.2.1]; omega
  | ⟨2, _⟩ => show win0_0.index t 2 * 16 + 1 * k.val = k.val; rw [hi.2.2.1]; omega
  | ⟨3, _⟩ => show win0_0.index t 3 * 192 + 1 * x.val = x.val; rw [hi.2.2.2]; omega

/-- The weight window of a point holds the whole folded weight. -/
theorem iblk_weights (c : Dev nD) (t : Fin cfg0.N) : (iblk m c 1 t : Vec Ideal S64x800 .bf16) = V m c main_call0_v17 := by
  funext j
  unfold iblk
  rw [View.read_apply]
  show V m c main_call0_v17 _ = V m c main_call0_v17 _
  congr 1
  funext a
  apply Fin.ext
  have hi := (window_facts t).2.1
  match a with
  | ⟨0, _⟩ => show win0_1.index t 0 * 64 + 1 * (j 0).val = (j 0).val; rw [hi.1]; omega
  | ⟨1, _⟩ => show win0_1.index t 1 * 800 + 1 * (j 1).val = (j 1).val; rw [hi.2]; omega

/-- The band window of a point holds the band matrices. -/
theorem iblk_bands (c : Dev nD) (t : Fin cfg0.N) : (iblk m c 2 t : Vec Ideal S7x234x192 .bf16) = V m c main_call0_v32 := by
  funext j
  unfold iblk
  rw [View.read_apply]
  show V m c main_call0_v32 _ = V m c main_call0_v32 _
  congr 1
  funext a
  apply Fin.ext
  have hi := (window_facts t).2.2.1
  match a with
  | ⟨0, _⟩ => show win0_2.index t 0 * 7 + 1 * (j 0).val = (j 0).val; rw [hi.1]; omega
  | ⟨1, _⟩ => show win0_2.index t 1 * 234 + 1 * (j 1).val = (j 1).val; rw [hi.2.1]; omega
  | ⟨2, _⟩ => show win0_2.index t 2 * 192 + 1 * (j 2).val = (j 2).val; rw [hi.2.2]; omega

/-- What the padded block of a point's batch entry shows. -/
theorem padded_iblk (c : Dev nD) (t : Fin cfg0.N) (u k v : ℕ) :
    padded (iblk m c 0 t) u k v = shown (imageOf m c) (entryOf t.val t.isLt) u k v :=
  iblk_image m c t (rowIx u) ⟨k % 16, Nat.mod_lt _ (by decide)⟩ (colIx v)

/-- After the first point of a batch entry the scratch holds its padded image. -/
theorem kept_first (c : Dev nD) (y : S214x16x234.Idx) (t : Fin cfg0.N) (h0 : t.val % 6 = 0) :
    (outsAt0 m c t.val t.isLt).2 y = shown (imageOf m c) (entryOf t.val t.isLt) (y 0).val (y 1).val (y 2).val := by
  have e := congrArg Prod.snd (outsAt0_A m c t h0)
  dsimp only at e
  rw [e, sout_A]
  exact padded_iblk m c t _ _ _

/-- A later point of a batch entry leaves the scratch as it was. -/
theorem kept_later (c : Dev nD) (t : Fin cfg0.N) (h0 : ¬ t.val % 6 = 0) :
    (outsAt0 m c t.val t.isLt).2 = (outsAt0 m c (t.val - 1) (Nat.lt_of_le_of_lt (Nat.sub_le _ _) t.isLt)).2 := by
  have e := congrArg Prod.snd (outsAt0_B m c t h0)
  dsimp only at e
  rw [e]
  rfl

/-- After every point the scratch holds the padded image of the point's batch entry. -/
theorem kept (c : Dev nD) (y : S214x16x234.Idx) (n : ℕ) : ∀ hn : n < cfg0.N,
    (outsAt0 m c n hn).2 y = shown (imageOf m c) (entryOf n hn) (y 0).val (y 1).val (y 2).val := by
  induction n with
  | zero => exact fun hn => kept_first m c y ⟨0, hn⟩ rfl
  | succ n ih =>
    intro hn
    by_cases h0 : (n + 1) % 6 = 0
    · exact kept_first m c y ⟨n + 1, hn⟩ h0
    · refine (congrFun (kept_later m c ⟨n + 1, hn⟩ h0) y).trans ((ih (Nat.lt_of_succ_lt hn)).trans ?_)
      have e : entryOf n (Nat.lt_of_succ_lt hn) = entryOf (n + 1) hn := Fin.ext (by show n / 6 = (n + 1) / 6; omega)
      rw [e]

/-- The rows of the tile of point `n`. -/
def tile (X : FVec Ideal S4x16x192x192 .f32) (n : ℕ) (hn : n < cfg0.N) (u k v : ℕ) : EReal := shown X (entryOf n hn) (32 * (n % 6) + u) k v

/-- The tile of a point is what the kernel takes it for. -/
theorem tileOf_eq (c : Dev nD) (t : Fin cfg0.N) (P : ℕ → ℕ → ℕ → EReal) (hP : ∀ u k v, P u k v = shown (imageOf m c) (entryOf t.val t.isLt) u k v) :
    tileOf P (grid0.coords t) = tile (imageOf m c) t.val t.isLt := by
  funext u k v
  unfold tileOf tile
  rw [hP, (window_facts t).2.2.2]

/-- What every point leaves in the result's block. -/
theorem left_apply (c : Dev nD) (t : Fin cfg0.N) (o : Fin 64) (h : Fin 32) (w : Fin 192) :
    (outsAt0 m c t.val t.isLt).1 (ix4 0 o h w) = rowDot (V m c main_call0_v17) (feat (tile (imageOf m c) t.val t.isLt) h.val) o w := by
  have hb : Bands (iblk m c 2 t : Vec Ideal S7x234x192 .bf16) := by
    rw [iblk_bands m c t]
    exact V_bands m c
  by_cases h0 : t.val % 6 = 0
  · have e := congrArg Prod.fst (outsAt0_A m c t h0)
    dsimp only at e
    rw [e, out_A (hx2 := hb), tileOf_eq m c t _ (padded_iblk m c t), iblk_weights m c t]
  · have hlt : t.val - 1 < cfg0.N := Nat.lt_of_le_of_lt (Nat.sub_le _ _) t.isLt
    have e : entryOf (t.val - 1) hlt = entryOf t.val t.isLt := Fin.ext (by show (t.val - 1) / 6 = t.val / 6; omega)
    have e' := congrArg Prod.fst (outsAt0_B m c t h0)
    dsimp only at e'
    rw [e', out_B (hx2 := hb) (P := shown (imageOf m c) (entryOf t.val t.isLt)) (hxs := fun y => by rw [kept m c y (t.val - 1) hlt, e]),
      tileOf_eq m c t _ (fun _ _ _ => rfl), iblk_weights m c t]

/-- The launch's result. -/
def kernelResult (c : Dev nD) : FVec Ideal S4x64x192x192 .f32 := G3 m c

/-- The folded weight that the launch reads. -/
def folded (c : Dev nD) : FVec Ideal S64x800 .bf16 := V m c main_call0_v17

/-- The kernel's result at an index. -/
theorem kernelResult_apply (c : Dev nD) (b : Fin 4) (o : Fin 64) (y w : Fin 192) :
    kernelResult m c (ix4 b o y w) = ∑ k : Fin 800, folded m c (ix2 o k) * feat (fun u k v => shown (imageOf m c) b (y.val + u) k v) 0 k.val w.val := by
  have hN : cfg0.N = 24 := N_0
  have hb := b.isLt
  have ho := o.isLt
  have hy := y.isLt
  have hw := w.isLt
  have hp : pt3Of (ix4 b o y w) = 6 * b.val + y.val / 32 := by
    show 6 * (b.val / 1 - 0) + 6 * (o.val / 64 - 0) + 1 * (y.val / 32 - 0) + 1 * (w.val / 192 - 0) = _
    omega
  have hlt : 6 * b.val + y.val / 32 < cfg0.N := by omega
  have hl : loc3Of (ix4 b o y w) = ix4 0 o ⟨y.val % 32, by omega⟩ w := by
    funext a
    apply Fin.ext
    match a with
    | ⟨0, _⟩ => show b.val % 1 = 0; omega
    | ⟨1, _⟩ => show o.val % 64 = o.val; omega
    | ⟨2, _⟩ => rfl
    | ⟨3, _⟩ => show w.val % 192 = w.val; omega
  have main := left_apply m c ⟨6 * b.val + y.val / 32, hlt⟩ o ⟨y.val % 32, by omega⟩ w
  rw [outsAt0_sweep] at main
  have hg : kernelResult m c (ix4 b o y w)
      = (Pipeline.accAt (fun n h => stAt0 m c n h junk0) (stAt0 m c) 0 (6 * b.val + y.val / 32) (by omega)).1 (ix4 0 o ⟨y.val % 32, by omega⟩ w) := by
    unfold kernelResult G3
    rw [hl]
    simp only [hp, dif_pos hlt]
  refine hg.trans (main.trans ?_)
  unfold rowDot
  refine Finset.sum_congr rfl fun k _ => congrArg _ ?_
  have e : entryOf (6 * b.val + y.val / 32) hlt = b := Fin.ext (by show (6 * b.val + y.val / 32) / 6 = b.val; omega)
  have hs : ∀ u, 32 * ((6 * b.val + y.val / 32) % 6) + (y.val % 32 + u) = y.val + (0 + u) := by intro u; omega
  unfold feat boxAt tile
  simp only [e, hs]

end Fov
-- ==== Proof.Equation.lean ====
module

public import proofs.«01_k».proof.Proof.Points

/-!
The two sums agree. Over the reals the kernel's sum over the boxes, with the weights gathered by box, is the reference's sum over
the positions, each divided by the number of its cells; finite arguments lift that to the extended reals.
-/

@[expose] public section

set_option maxRecDepth 16384

noncomputable section

namespace Fov

open Idealize.ShloMosaic Idealize.ShloMosaic.Pointwise

/-- The reals in the extended reals, as a map of sums. -/
def realHom : ℝ →+ EReal where
  toFun r := (r : EReal)
  map_zero' := rfl
  map_add' a b := EReal.coe_add a b

/-- A finite sum of reals, read in the extended reals. -/
theorem coe_sum {ι : Type} [Fintype ι] (f : ι → ℝ) : ((∑ i, f i : ℝ) : EReal) = ∑ i, (f i : EReal) :=
  map_sum realHom f Finset.univ

/-- The sum over a list of cells, read in the extended reals. -/
theorem coe_cells (l : List (ℕ × ℕ)) (f : ℕ × ℕ → ℝ) : (((l.map f).sum : ℝ) : EReal) = (l.map fun q => (f q : EReal)).sum := by
  have h := map_list_sum realHom (l.map f)
  rw [List.map_map] at h
  exact h

/-- The sum over a box, read in the extended reals. -/
theorem coe_boxSum (f : ℕ × ℕ → ℝ) (b : ℕ × ℕ × ℕ × ℕ) : ((boxSum f b : ℝ) : EReal) = boxSum (fun q => (f q : EReal)) b :=
  coe_cells _ f

/-- The boxes' sums, shared out to a position, are the position's mean. -/
theorem shares_mean (f : ℕ × ℕ → ℝ) (p : Fin 49) :
    (∑ m : Fin 49, share p.val m.val * boxSum f (basis m.val)) = ((pos p.val).map f).sum * ((pos p.val).length : ℝ)⁻¹ := by
  rw [← pos_sum f p, Finset.sum_mul]
  refine Finset.sum_congr rfl fun m _ => ?_
  unfold share
  split_ifs
  · exact mul_comm _ _
  · simp

/-- A sum over 784 entries, taken in 16 runs of 49. -/
theorem sum_runs {M : Type} [AddCommMonoid M] (g : ℕ → M) : (∑ j : Fin 784, g j.val) = ∑ c : Fin 16, ∑ p : Fin 49, g (c.val * 49 + p.val) := by
  rw [← Fintype.sum_prod_type', ← (finProdFinEquiv : Fin 16 × Fin 49 ≃ Fin 784).sum_comp]
  refine Finset.sum_congr rfl fun z _ => congrArg g ?_
  show z.2.val + 49 * z.1.val = z.1.val * 49 + z.2.val
  ring

/-- A sum over 784 entries, taken in 49 runs of 16. -/
theorem sum_runs' {M : Type} [AddCommMonoid M] (g : ℕ → M) : (∑ j : Fin 784, g j.val) = ∑ m : Fin 49, ∑ c : Fin 16, g (16 * m.val + c.val) := by
  rw [← Fintype.sum_prod_type', ← (finProdFinEquiv : Fin 49 × Fin 16 ≃ Fin 784).sum_comp]
  refine Finset.sum_congr rfl fun z _ => congrArg g ?_
  show z.2.val + 16 * z.1.val = 16 * z.1.val + z.2.val
  ring

/-- The two sums over the reals. -/
theorem real_sums (W : ℕ → ℝ) (x : ℕ → ℕ × ℕ → ℝ) :
    (∑ k : Fin 784, (∑ p : Fin 49, W (k.val % 16 * 49 + p.val) * share p.val (k.val / 16)) * boxSum (x (k.val % 16)) (basis (k.val / 16)))
      = ∑ j : Fin 784, W j.val * (((pos (j.val % 49)).map (x (j.val / 49))).sum * ((pos (j.val % 49)).length : ℝ)⁻¹) := by
  rw [sum_runs' fun k => (∑ p : Fin 49, W (k % 16 * 49 + p.val) * share p.val (k / 16)) * boxSum (x (k % 16)) (basis (k / 16)),
    sum_runs fun j => W j * (((pos (j % 49)).map (x (j / 49))).sum * ((pos (j % 49)).length : ℝ)⁻¹), Finset.sum_comm]
  refine Finset.sum_congr rfl fun c _ => ?_
  have hc := c.isLt
  have e1 : ∀ m : ℕ, (16 * m + c.val) % 16 = c.val := by intro m; omega
  have e2 : ∀ m : ℕ, (16 * m + c.val) / 16 = m := by intro m; omega
  have e3 : ∀ p : Fin 49, (c.val * 49 + p.val) % 49 = p.val := by intro p; have := p.isLt; omega
  have e4 : ∀ p : Fin 49, (c.val * 49 + p.val) / 49 = c.val := by intro p; have := p.isLt; omega
  simp only [e1, e2, e3, e4]
  simp only [Finset.sum_mul]
  rw [Finset.sum_comm]
  refine Finset.sum_congr rfl fun p _ => ?_
  rw [← shares_mean, Finset.mul_sum]
  exact Finset.sum_congr rfl fun m _ => mul_assoc _ _ _

/-- A sum over 800 entries: 784, one more, and 15 zeros. -/
theorem sum_800 (g : Fin 800 → EReal) (h : ∀ k : Fin 800, 784 < k.val → g k = 0) :
    (∑ k, g k) = (∑ k : Fin 784, g ⟨k.val, by omega⟩) + g ⟨784, by decide⟩ := by
  have e : (∑ k : Fin (784 + 16), g k) = _ := Fin.sum_univ_add (a := 784) (b := 16) g
  have e' : (∑ i : Fin 16, g (Fin.natAdd 784 i)) = g ⟨784, by decide⟩ := by
    rw [Fin.sum_univ_succ (n := 15), Finset.sum_eq_zero (fun i _ => h _ (by show 784 < 784 + (i.val + 1); omega)), add_zero]
    rfl
  exact e.trans (congrArg _ e')

/-- The quotient of two reals, the divisor positive. -/
theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The two sums, for finite image and weights and any bias. -/
theorem sums_eq (W : ℕ → ℝ) (x : ℕ → ℕ × ℕ → ℝ) (B : EReal) (w2 : Fin 800 → EReal) (f : ℕ → EReal)
    (hw : ∀ k : Fin 800, w2 k = if k.val < 784 then ∑ p : Fin 49, (W (k.val % 16 * 49 + p.val) : EReal) * ((share p.val (k.val / 16) : ℝ) : EReal) else if k.val = 784 then B else 0)
    (hf : ∀ k : ℕ, f k = if k < 784 then boxSum (fun q => (x (k % 16) q : EReal)) (basis (k / 16)) else if k = 784 then 1 else 0) :
    (∑ k : Fin 800, w2 k * f k.val)
      = (∑ j : Fin 784, (W j.val : EReal) * Ideal.div ((pos (j.val % 49)).map fun q => (x (j.val / 49) q : EReal)).sum (((pos (j.val % 49)).length : ℝ) : EReal)) + B := by
  rw [sum_800 _ (fun k hk => by rw [hw, if_neg (by omega), if_neg (by omega), zero_mul])]
  refine congrArg₂ (· + ·) ?_ ?_
  · have hL : ∀ k : Fin 784, w2 ⟨k.val, by omega⟩ * f k.val
        = (((∑ p : Fin 49, W (k.val % 16 * 49 + p.val) * share p.val (k.val / 16)) * boxSum (x (k.val % 16)) (basis (k.val / 16)) : ℝ) : EReal) := by
      intro k
      rw [hw, hf, if_pos k.isLt, if_pos k.isLt, EReal.coe_mul, coe_sum, coe_boxSum]
      simp only [EReal.coe_mul]
    have hR : ∀ j : Fin 784, (W j.val : EReal) * Ideal.div ((pos (j.val % 49)).map fun q => (x (j.val / 49) q : EReal)).sum (((pos (j.val % 49)).length : ℝ) : EReal)
        = ((W j.val * (((pos (j.val % 49)).map (x (j.val / 49))).sum * ((pos (j.val % 49)).length : ℝ)⁻¹) : ℝ) : EReal) := by
      intro j
      have hl := (pos_length ⟨j.val % 49, by omega⟩).1
      rw [← coe_cells, div_coe _ _ (by exact_mod_cast hl.ne'), ← EReal.coe_mul]
    simp only [hL, hR]
    rw [← coe_sum, ← coe_sum, real_sums]
  · rw [hw, hf]
    simp

end Fov
-- ==== Proof.Finite.lean ====
module

public import proofs.«01_k».proof.Proof.Gen.Pre_finite
public import Idealize.ShloMosaic.Lib.ReduceAll
public import Idealize.ShloMosaic.Lib.Pointwise
public import Idealize.ShloMosaic.PureOps.Ideal

/-!
What the precondition says: every entry of the image and of the weights is a real number.
-/

@[expose] public section

noncomputable section

namespace Fov

open Cert.Pre_finite Cert.Pre_finite.Gen Idealize.ShloMosaic Idealize.ShloMosaic.Pointwise

/-- The word of the upper bound. -/
theorem bound_word : (FloatOps.ofBits (F := Ideal) .f32 0x7F800000#32 : EReal) = ⊤ := by
  show Ideal.ofBits FTy.f32 0x7F800000#32 = ⊤
  simp [Ideal.ofBits, Ideal.ieee]

/-- A value whose absolute value lies below the upper bound is a real number. -/
theorem real_of_below (a b : EReal) (hb : b = ⊤) (h : Ideal.cmp .olt (max a (-a)) b = 1#1) : ∃ r : ℝ, a = (r : EReal) := by
  subst hb
  induction a with
  | bot => exact absurd h (by simp [Ideal.cmp])
  | top => exact absurd h (by simp [Ideal.cmp])
  | coe r => exact ⟨r, rfl⟩

/-- The precondition: image and weights are real. -/
theorem finite_values (x : FVec Ideal S4x16x192x192 .f32) (w : FVec Ideal S64x784 .f32) (b : FVec Ideal S64 .f32)
    (h : Cert.Pre_finite.fn (F := Ideal) x w b = fun _ => 1#1) :
    (∀ i, ∃ r : ℝ, x i = (r : EReal)) ∧ (∀ i, ∃ r : ℝ, w i = (r : EReal)) := by
  have hs : Subsingleton S_.Idx := ⟨fun a b => funext fun k => k.elim0⟩
  have h0 := congrFun h (fun k => k.elim0)
  dsimp only [Cert.Pre_finite.fn] at h0
  obtain ⟨h1, h2⟩ := IntOp.andi_eq_one.1 h0
  refine ⟨fun i => ?_, fun i => ?_⟩
  · exact real_of_below _ _ bound_word (Host.reduce_andi_all _ _ _ _ _ h1 i)
  · exact real_of_below _ _ bound_word (Host.reduce_andi_all _ _ _ _ _ h2 i)

end Fov
-- ==== Proof.Agree.lean ====
module

public import proofs.«01_k».proof.Proof.Equation
public import proofs.«01_k».proof.Proof.Finite

/-!
The kernel's result is the reference's.
-/

@[expose] public section

set_option maxRecDepth 16384

noncomputable section

namespace Fov

open Idealize.ShloMosaic Idealize.ShloMosaic.TcCoe Idealize.ShloMosaic.Pointwise Idealize.SL.Sem

variable (m : (ℓ : Loc Cert.KernelIdeal.nD Cert.KernelIdeal.τ Cert.KernelIdeal.sig) → Buf (Elt Ideal) ℓ)

/-- The kernel's result at an index, for a real image and real weights. -/
theorem kernel_sum (c : Dev Cert.KernelIdeal.nD) (x : Cert.KernelIdeal.S4x16x192x192.Idx → ℝ) (w : Cert.KernelIdeal.S64x784.Idx → ℝ)
    (hx : ∀ i, imageOf m c i = (x i : EReal)) (hw : ∀ i, weightOf m c i = (w i : EReal)) (n : Fin 4) (o : Fin 64) (y z : Fin 192) :
    kernelResult m c (ix4 n o y z)
      = (∑ j : Fin 784, (weightOf m c (ix2 o j) : EReal) * Ideal.div (cellSum (imageOf m c) n (j.val % 49) (j.val / 49) y.val z.val) (((pos (j.val % 49)).length : ℝ) : EReal))
        + biasOf m c (ix1 o) := by
  rw [kernelResult_apply]
  let W : ℕ → ℝ := fun j => w (ix2 o ⟨j % 784, Nat.mod_lt _ (by decide)⟩)
  let X : ℕ → ℕ × ℕ → ℝ := fun k q => x (ix4 n ⟨k % 16, Nat.mod_lt _ (by decide)⟩ (rowIx (y.val + q.1)) (colIx (z.val + q.2)))
  have hX : ∀ (k : ℕ) (q : ℕ × ℕ), shown (imageOf m c) n (y.val + q.1) k (z.val + q.2) = (X k q : EReal) := fun k q => hx _
  have hX' : ∀ (k : ℕ) (q : ℕ × ℕ), shown (imageOf m c) n (y.val + (0 + q.1)) (k % 16) (z.val + q.2) = (X (k % 16) q : EReal) := fun k q => by
    rw [Nat.zero_add]
    exact hX _ q
  have hW : ∀ (j : ℕ) (hj : j < 784), weightOf m c (ix2 o ⟨j, hj⟩) = (W j : EReal) := fun j hj => by
    refine (hw _).trans ?_
    show (w (ix2 o ⟨j, hj⟩) : EReal) = (w (ix2 o ⟨j % 784, Nat.mod_lt _ (by decide)⟩) : EReal)
    simp only [Nat.mod_eq_of_lt hj]
  refine (sums_eq W X (biasOf m c (ix1 o)) (fun k => folded m c (ix2 o k)) (fun k => feat (fun u k v => shown (imageOf m c) n (y.val + u) k v) 0 k z.val) (fun k => ?_) (fun k => ?_)).trans ?_
  · refine (V_weights_apply m c o k).trans ?_
    by_cases h : k.val < 784
    · rw [dif_pos h, if_pos h]
      simp only [hW]
    · rw [dif_neg h, if_neg h]
  · unfold feat boxAt
    simp only [hX']
  · refine congrArg (· + _) (Finset.sum_congr rfl fun j _ => ?_)
    rw [hW j.val j.isLt]
    unfold cellSum
    simp only [hX]

/-- The two programs' results agree when their arguments do and the precondition holds. -/
theorem results_agree (m' : (ℓ : Loc Cert.ReferenceIdeal.nD Cert.ReferenceIdeal.τ Cert.ReferenceIdeal.sig) → Buf (Elt Ideal) ℓ) (c : Dev Cert.KernelIdeal.nD)
    (hpre : Cert.Pre_finite.fn (F := Ideal) (imageOf m c) (weightOf m c) (biasOf m c) = fun _ => 1#1)
    (h0 : refImage m' c = imageOf m c) (h1 : refWeight m' c = weightOf m c) (h2 : refBias m' c = biasOf m c) :
    (Cert.ReferenceIdeal.Value.res_main_v54 m' c : FVec Ideal Cert.ReferenceIdeal.S4x64x192x192 .f32) = kernelResult m c := by
  obtain ⟨hx, hw⟩ := finite_values _ _ _ hpre
  choose x hx using hx
  choose w hw using hw
  funext i
  have hi : i = ix4 (i 0) (i 1) (i 2) (i 3) := by
    funext a
    fin_cases a <;> rfl
  rw [hi]
  refine (res_cells m' c (i 0) (i 1) (i 2) (i 3)).trans ?_
  rw [h0, h1, h2]
  exact (kernel_sum m c x w hx hw (i 0) (i 1) (i 2) (i 3)).symm

end Fov
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame. -/
theorem frame_p : Cert.quiescent_Kernel := fun m ρ _ => Cert.Kernel.Gen.frame m ρ

/-- The frame of the kernel's idealization. -/
theorem frame_pi : Cert.quiescent_KernelIdeal := fun m ρ _ => Cert.KernelIdeal.Gen.frame m ρ

/-- The same under the precondition. -/
theorem frame_pi_finite : Cert.quiescent_KernelIdeal_pre_finite := fun m ρ _ => Cert.KernelIdeal.Gen.frame m ρ

/-- The frame of the reference's idealization: its run read at the arguments; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_ri_finite : Cert.quiescent_ReferenceIdeal_pre_finite := fun m ρ _ => frame_ri m ρ trivial

/-- The kernel and the reference give one result: the kernel's run ends at `Fov.kernelResult`, which is what the reference's run
    ends at when the arguments are the same. -/
theorem algebraic : Cert.algebraic_KernelIdeal_ReferenceIdeal_pre_finite := by
  intro m ρ m' ρ' hpre hagree
  refine ⟨fun c => Cert.KernelIdeal.Value.G3 m c, Cert.KernelIdeal.Value.run (F := Ideal) m ρ, ?_⟩
  refine (θ_run Cert.ReferenceIdeal.defs _ _).mono (fun r h c => ?_) (Cert.ReferenceIdeal.Value.run (F := Ideal) m' ρ')
  exact ⟨(h c).1.trans (Fov.results_agree m m' c (hpre c) (hagree c).1 (hagree c).2.1 (hagree c).2.2), (h c).2⟩

theorem claim : Cert.Claim :=
  ⟨Cert.Kernel.Gen.facts, Cert.KernelIdeal.Gen.facts, Cert.ReferenceIdeal.Gen.facts, Cert.Pre_finite.Gen.facts,
    frame_p, frame_pi, frame_pi_finite, frame_ri, frame_ri_finite, trivial, algebraic⟩

end Cert.Proof

end
